-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S4x8192x3 : Shape := ⟨3, ![4, 8192, 3]⟩
abbrev S4x1024x3 : Shape := ⟨3, ![4, 1024, 3]⟩
abbrev S4x8192x16 : Shape := ⟨3, ![4, 8192, 16]⟩
abbrev S4x1024x32 : Shape := ⟨3, ![4, 1024, 32]⟩
abbrev S48x64 : Shape := ⟨2, ![48, 64]⟩
abbrev S64 : Shape := ⟨1, ![64]⟩
abbrev S64x64 : Shape := ⟨2, ![64, 64]⟩
abbrev S_ : Shape := ⟨0, ![]⟩
abbrev S4x8192 : Shape := ⟨2, ![4, 8192]⟩
abbrev S4x1024 : Shape := ⟨2, ![4, 1024]⟩
abbrev S4x8192x1 : Shape := ⟨3, ![4, 8192, 1]⟩
abbrev S4x1x1024 : Shape := ⟨3, ![4, 1, 1024]⟩
abbrev S4x8192x1024 : Shape := ⟨3, ![4, 8192, 1024]⟩
abbrev S4x8192x4 : Shape := ⟨3, ![4, 8192, 4]⟩

class Facts : Prop where
  reducesTo_S4x8192x3_S4x8192_d2 : S4x8192x3.ReducesTo [2] S4x8192
  h_S_ : 0 < S_.numel
  reducesTo_S4x1024x3_S4x1024_d2 : S4x1024x3.ReducesTo [2] S4x1024
  bcast_S4x8192_S4x8192x1_0_1 : S4x8192.BroadcastsInDim S4x8192x1 (![0, 1] : Fin 2 → Fin S4x8192x1.rank)
  bcast_S4x1024_S4x1x1024_0_2 : S4x1024.BroadcastsInDim S4x1x1024 (![0, 2] : Fin 2 → Fin S4x1x1024.rank)
  bcast_S4x8192x1_S4x8192x1024_0_1_2 : S4x8192x1.BroadcastsInDim S4x8192x1024 (![0, 1, 2] : Fin 3 → Fin S4x8192x1024.rank)
  bcast_S4x1x1024_S4x8192x1024_0_1_2 : S4x1x1024.BroadcastsInDim S4x8192x1024 (![0, 1, 2] : Fin 3 → Fin S4x8192x1024.rank)
  bcast_S_S4x8192x1024 : S_.BroadcastsInDim S4x8192x1024 (![] : Fin 0 → Fin S4x8192x1024.rank)
  sliceFits_S4x8192x1024_S4x8192x4 : S4x8192x1024.Slices (fun _ => 0) S4x8192x4
  slices_S4x8192x4_S4x8192x1_0_0_0 : S4x8192x4.Slices ![0, 0, 0] S4x8192x1
  bcast_S_S4x8192x1 : S_.BroadcastsInDim S4x8192x1 (![] : Fin 0 → Fin S4x8192x1.rank)
  slices_S4x8192x4_S4x8192x1_0_0_1 : S4x8192x4.Slices ![0, 0, 1] S4x8192x1
  slices_S4x8192x4_S4x8192x1_0_0_2 : S4x8192x4.Slices ![0, 0, 2] S4x8192x1
  slices_S4x8192x4_S4x8192x1_0_0_3 : S4x8192x4.Slices ![0, 0, 3] S4x8192x1
  dot_S4x8192x3_S4x1024x3_S4x8192x1024_2_2_1_1_0_0_wf : DotDims.WF S4x8192x3 S4x1024x3 S4x8192x1024 [2] [2] [1] [1] [0] [0]

variable [Facts]

def dot_S4x8192x3_S4x1024x3_S4x8192x1024_2_2_1_1_0_0 : DotDims S4x8192x3 S4x1024x3 S4x8192x1024 where
  lhsContracting := [2]
  rhsContracting := [2]
  lhsNonContracting := [1]
  rhsNonContracting := [1]
  lhsBatch := [0]
  rhsBatch := [0]
  wf := dot_S4x8192x3_S4x1024x3_S4x8192x1024_2_2_1_1_0_0_wf
def fn_part1 {F : FTy → Type} [FloatOps F] (main_v14 : FVec F S4x8192x4 .f32) (main_v17 : IVec S4x8192x1 1) : IVec S4x8192x1 1 :=
  let main_v18 : FVec F S4x8192x1 .f32 := (extractStridedSlice S4x8192x1 ![0, 0, 0] · slices_S4x8192x4_S4x8192x1_0_0_0) main_v14
  let main_v19 : FVec F S4x8192x1 .f32 := (extractStridedSlice S4x8192x1 ![0, 0, 1] · slices_S4x8192x4_S4x8192x1_0_0_1) main_v14
  let main_v20 : IVec S4x8192x1 1 := cmpf .olt main_v18 main_v19
  let main_v21 : IVec S4x8192x1 1 := andi main_v17 main_v20
  let main_v22 : FVec F S4x8192x1 .f32 := (extractStridedSlice S4x8192x1 ![0, 0, 1] · slices_S4x8192x4_S4x8192x1_0_0_1) main_v14
  let main_v23 : FVec F S4x8192x1 .f32 := (extractStridedSlice S4x8192x1 ![0, 0, 2] · slices_S4x8192x4_S4x8192x1_0_0_2) main_v14
  let main_v24 : IVec S4x8192x1 1 := cmpf .olt main_v22 main_v23
  let main_v25 : IVec S4x8192x1 1 := andi main_v21 main_v24
  let main_v26 : FVec F S4x8192x1 .f32 := (extractStridedSlice S4x8192x1 ![0, 0, 2] · slices_S4x8192x4_S4x8192x1_0_0_2) main_v14
  let main_v27 : FVec F S4x8192x1 .f32 := (extractStridedSlice S4x8192x1 ![0, 0, 3] · slices_S4x8192x4_S4x8192x1_0_0_3) main_v14
  let main_v28 : IVec S4x8192x1 1 := cmpf .olt main_v26 main_v27
  let main_v29 : IVec S4x8192x1 1 := andi main_v25 main_v28
  let main_v30 : FVec F S4x8192x1 .f32 := (extractStridedSlice S4x8192x1 ![0, 0, 2] · slices_S4x8192x4_S4x8192x1_0_0_2) main_v14
  let main_cst_3 : FVec F S_ .f32 := constant S_ .f32 0x7F7FC99E#32
  let main_v31 : FVec F S4x8192x1 .f32 := broadcastInDim S4x8192x1 ![] bcast_S_S4x8192x1 main_cst_3
  let main_v32 : IVec S4x8192x1 1 := cmpf .ole main_v30 main_v31
  let main_v33 : IVec S4x8192x1 1 := andi main_v29 main_v32
  main_v33

def fn {F : FTy → Type} [FloatOps F] (main_arg0 : FVec F S4x8192x3 .f32) (main_arg1 : FVec F S4x1024x3 .f32) (main_arg2 : FVec F S4x8192x16 .f32) (main_arg3 : FVec F S4x1024x32 .f32) (main_arg4 : FVec F S48x64 .f32) (main_arg5 : FVec F S64 .f32) (main_arg6 : FVec F S64x64 .f32) (main_arg7 : FVec F S64 .f32) : IVec S4x8192x1 1 :=
  let main_v0 : FVec F S4x8192x3 .f32 := mulf main_arg0 main_arg0
  let main_cst : FVec F S_ .f32 := constant S_ .f32 0x00000000#32
  let main_v1 : FVec F S4x8192 .f32 := (fun x v => Host.reduceAdd x v reducesTo_S4x8192x3_S4x8192_d2 h_S_) main_v0 main_cst
  let main_v2 : FVec F S4x1024x3 .f32 := mulf main_arg1 main_arg1
  let main_cst_0 : FVec F S_ .f32 := constant S_ .f32 0x00000000#32
  let main_v3 : FVec F S4x1024 .f32 := (fun x v => Host.reduceAdd x v reducesTo_S4x1024x3_S4x1024_d2 h_S_) main_v2 main_cst_0
  let main_v4 : FVec F S4x8192x1 .f32 := broadcastInDim S4x8192x1 ![0, 1] bcast_S4x8192_S4x8192x1_0_1 main_v1
  let main_v5 : FVec F S4x1x1024 .f32 := broadcastInDim S4x1x1024 ![0, 2] bcast_S4x1024_S4x1x1024_0_2 main_v3
  let main_v6 : FVec F S4x8192x1024 .f32 := broadcastInDim S4x8192x1024 ![0, 1, 2] bcast_S4x8192x1_S4x8192x1024_0_1_2 main_v4
  let main_v7 : FVec F S4x8192x1024 .f32 := broadcastInDim S4x8192x1024 ![0, 1, 2] bcast_S4x1x1024_S4x8192x1024_0_1_2 main_v5
  let main_v8 : FVec F S4x8192x1024 .f32 := addf main_v6 main_v7
  let main_v9 : FVec F S4x8192x1024 .f32 := (fun l r => Host.dotGeneral dot_S4x8192x3_S4x1024x3_S4x8192x1024_2_2_1_1_0_0 none l r) main_arg0 main_arg1
  let main_cst_1 : FVec F S_ .f32 := constant S_ .f32 0x40000000#32
  let main_v10 : FVec F S4x8192x1024 .f32 := broadcastInDim S4x8192x1024 ![] bcast_S_S4x8192x1024 main_cst_1
  let main_v11 : FVec F S4x8192x1024 .f32 := mulf main_v10 main_v9
  let main_v12 : FVec F S4x8192x1024 .f32 := subf main_v8 main_v11
  let main_v13 : FVec F S4x8192x1024 .f32 := Host.negf main_v12
  let main_values : FVec F S4x8192x4 .f32 := (fun x => (Host.topK S4x8192x4 2 (FloatOps.cmpfTotal .gt) x sliceFits_S4x8192x1024_S4x8192x4).1) main_v13
  let main_indices : IVec S4x8192x4 32 := (fun x => (Host.topK S4x8192x4 2 (FloatOps.cmpfTotal .gt) x sliceFits_S4x8192x1024_S4x8192x4).2) main_v13
  let main_v14 : FVec F S4x8192x4 .f32 := Host.negf main_values
  let main_v15 : FVec F S4x8192x1 .f32 := (extractStridedSlice S4x8192x1 ![0, 0, 0] · slices_S4x8192x4_S4x8192x1_0_0_0) main_v14
  let main_cst_2 : FVec F S_ .f32 := constant S_ .f32 0x0DA24260#32
  let main_v16 : FVec F S4x8192x1 .f32 := broadcastInDim S4x8192x1 ![] bcast_S_S4x8192x1 main_cst_2
  let main_v17 : IVec S4x8192x1 1 := cmpf .oge main_v15 main_v16
  fn_part1 (F := F) main_v14 main_v17
-- ==== Kernel.lean ====
abbrev S4x8192x3 : Shape := ⟨3, ![4, 8192, 3]⟩
abbrev S4x1024x3 : Shape := ⟨3, ![4, 1024, 3]⟩
abbrev S4x8192x16 : Shape := ⟨3, ![4, 8192, 16]⟩
abbrev S4x1024x32 : Shape := ⟨3, ![4, 1024, 32]⟩
abbrev S48x64 : Shape := ⟨2, ![48, 64]⟩
abbrev S64 : Shape := ⟨1, ![64]⟩
abbrev S64x64 : Shape := ⟨2, ![64, 64]⟩
abbrev S32x64 : Shape := ⟨2, ![32, 64]⟩
abbrev S16x64 : Shape := ⟨2, ![16, 64]⟩
abbrev S_ : Shape := ⟨0, ![]⟩
abbrev S4x8192 : Shape := ⟨2, ![4, 8192]⟩
abbrev S4x8192x1 : Shape := ⟨3, ![4, 8192, 1]⟩
abbrev S4x1024 : Shape := ⟨2, ![4, 1024]⟩
abbrev S4x1x1024 : Shape := ⟨3, ![4, 1, 1024]⟩
abbrev S1x64 : Shape := ⟨2, ![1, 64]⟩
abbrev S4x8192x64 : Shape := ⟨3, ![4, 8192, 64]⟩
abbrev S1x2048x3 : Shape := ⟨3, ![1, 2048, 3]⟩
abbrev S1x1024x3 : Shape := ⟨3, ![1, 1024, 3]⟩
abbrev S1x2048x1 : Shape := ⟨3, ![1, 2048, 1]⟩
abbrev S1x1x1024 : Shape := ⟨3, ![1, 1, 1024]⟩
abbrev S1x2048x16 : Shape := ⟨3, ![1, 2048, 16]⟩
abbrev S1x1024x32 : Shape := ⟨3, ![1, 1024, 32]⟩
abbrev S1x2048x64 : Shape := ⟨3, ![1, 2048, 64]⟩
abbrev S2048x3 : Shape := ⟨2, ![2048, 3]⟩
abbrev S1024x3 : Shape := ⟨2, ![1024, 3]⟩
abbrev S2048x1024 : Shape := ⟨2, ![2048, 1024]⟩
abbrev S2048x1 : Shape := ⟨2, ![2048, 1]⟩
abbrev S1x1024 : Shape := ⟨2, ![1, 1024]⟩
abbrev S2048x128 : Shape := ⟨2, ![2048, 128]⟩
abbrev S2048 : Shape := ⟨1, ![2048]⟩
abbrev S1024x32 : Shape := ⟨2, ![1024, 32]⟩
abbrev S2048x32 : Shape := ⟨2, ![2048, 32]⟩
abbrev S2048x64 : Shape := ⟨2, ![2048, 64]⟩
abbrev S2048x16 : Shape := ⟨2, ![2048, 16]⟩

abbrev nBuf : Space → Nat
  | .hbm => 21
  | .vmem => 19
  | .smem => 0
  | _ => 0

abbrev bufTy : (tb : Table) → Fin (tcTables nBuf tb) → BufTy
  | .hbm, ⟨0, _⟩ => ⟨S4x8192x3, .f32⟩
  | .hbm, ⟨1, _⟩ => ⟨S4x1024x3, .f32⟩
  | .hbm, ⟨2, _⟩ => ⟨S4x8192x16, .f32⟩
  | .hbm, ⟨3, _⟩ => ⟨S4x1024x32, .f32⟩
  | .hbm, ⟨4, _⟩ => ⟨S48x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S32x64, .f32⟩
  | .hbm, ⟨9, _⟩ => ⟨S16x64, .f32⟩
  | .hbm, ⟨10, _⟩ => ⟨S4x8192x3, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x1024x3, .f32⟩
  | .hbm, ⟨15, _⟩ => ⟨S_, .f32⟩
  | .hbm, ⟨16, _⟩ => ⟨S4x1024, .f32⟩
  | .hbm, ⟨17, _⟩ => ⟨S4x1x1024, .f32⟩
  | .hbm, ⟨18, _⟩ => ⟨S1x64, .f32⟩
  | .hbm, ⟨19, _⟩ => ⟨S1x64, .f32⟩
  | .hbm, ⟨20, _⟩ => ⟨S4x8192x64, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x2048x1, .f32⟩
  | .local _ .vmem, ⟨5, _⟩ => ⟨S1x2048x1, .f32⟩
  | .local _ .vmem, ⟨6, _⟩ => ⟨S1x1x1024, .f32⟩
  | .local _ .vmem, ⟨7, _⟩ => ⟨S1x1x1024, .f32⟩
  | .local _ .vmem, ⟨8, _⟩ => ⟨S1x2048x16, .f32⟩
  | .local _ .vmem, ⟨9, _⟩ => ⟨S1x2048x16, .f32⟩
  | .local _ .vmem, ⟨10, _⟩ => ⟨S1x1024x32, .f32⟩
  | .local _ .vmem, ⟨11, _⟩ => ⟨S1x1024x32, .f32⟩
  | .local _ .vmem, ⟨12, _⟩ => ⟨S32x64, .f32⟩
  | .local _ .vmem, ⟨13, _⟩ => ⟨S16x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S1x2048x64, .f32⟩
  | .local _ .vmem, ⟨18, _⟩ => ⟨S1x2048x64, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x8192x3 : Shape := ⟨3, ![4, 8192, 3]⟩
abbrev S4x1024x3 : Shape := ⟨3, ![4, 1024, 3]⟩
abbrev S4x8192x16 : Shape := ⟨3, ![4, 8192, 16]⟩
abbrev S4x1024x32 : Shape := ⟨3, ![4, 1024, 32]⟩
abbrev S48x64 : Shape := ⟨2, ![48, 64]⟩
abbrev S64 : Shape := ⟨1, ![64]⟩
abbrev S64x64 : Shape := ⟨2, ![64, 64]⟩
abbrev S_ : Shape := ⟨0, ![]⟩
abbrev S4x8192 : Shape := ⟨2, ![4, 8192]⟩
abbrev S4x1024 : Shape := ⟨2, ![4, 1024]⟩
abbrev S4x8192x1 : Shape := ⟨3, ![4, 8192, 1]⟩
abbrev S4x1x1024 : Shape := ⟨3, ![4, 1, 1024]⟩
abbrev S4x8192x1024 : Shape := ⟨3, ![4, 8192, 1024]⟩
abbrev S4x24576x1 : Shape := ⟨3, ![4, 24576, 1]⟩
abbrev S1 : Shape := ⟨1, ![1]⟩
abbrev S1x1x1 : Shape := ⟨3, ![1, 1, 1]⟩
abbrev S4x24576 : Shape := ⟨2, ![4, 24576]⟩
abbrev S4x24576x32 : Shape := ⟨3, ![4, 24576, 32]⟩
abbrev S4x8192x3x32 : Shape := ⟨4, ![4, 8192, 3, 32]⟩
abbrev S4x8192x3x1 : Shape := ⟨4, ![4, 8192, 3, 1]⟩
abbrev S4x8192x32 : Shape := ⟨3, ![4, 8192, 32]⟩
abbrev S4x8192x48 : Shape := ⟨3, ![4, 8192, 48]⟩
abbrev S4x8192x64 : Shape := ⟨3, ![4, 8192, 64]⟩
abbrev S1x1x64 : Shape := ⟨3, ![1, 1, 64]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x1024x3, .f32⟩
  | .hbm, ⟨2, _⟩ => ⟨S4x8192x16, .f32⟩
  | .hbm, ⟨3, _⟩ => ⟨S4x1024x32, .f32⟩
  | .hbm, ⟨4, _⟩ => ⟨S48x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x1024x3, .f32⟩
  | .hbm, ⟨12, _⟩ => ⟨S_, .f32⟩
  | .hbm, ⟨13, _⟩ => ⟨S4x1024, .f32⟩
  | .hbm, ⟨14, _⟩ => ⟨S4x8192x1, .f32⟩
  | .hbm, ⟨15, _⟩ => ⟨S4x1x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x3, .f32⟩
  | .hbm, ⟨29, _⟩ => ⟨S4x8192x3, .i32⟩
  | .hbm, ⟨30, _⟩ => ⟨S4x8192x3, .f32⟩
  | .hbm, ⟨31, _⟩ => ⟨S_, .f32⟩
  | .hbm, ⟨32, _⟩ => ⟨S4x8192x3, .f32⟩
  | .hbm, ⟨33, _⟩ => ⟨S4x8192x3, .f32⟩
  | .hbm, ⟨34, _⟩ => ⟨S_, .f32⟩
  | .hbm, ⟨35, _⟩ => ⟨S4x8192x3, .f32⟩
  | .hbm, ⟨36, _⟩ => ⟨S4x8192x3, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x3, .f32⟩
  | .hbm, ⟨41, _⟩ => ⟨S4x8192x3, .f32⟩
  | .hbm, ⟨42, _⟩ => ⟨S4x24576x1, .i32⟩
  | .hbm, ⟨43, _⟩ => ⟨S_, .i32⟩
  | .hbm, ⟨44, _⟩ => ⟨S4x24576x1, .i32⟩
  | .hbm, ⟨45, _⟩ => ⟨S4x24576x1, .i1⟩
  | .hbm, ⟨46, _⟩ => ⟨S_, .i32⟩
  | .hbm, ⟨47, _⟩ => ⟨S4x24576x1, .i32⟩
  | .hbm, ⟨48, _⟩ => ⟨S4x24576x1, .i32⟩
  | .hbm, ⟨49, _⟩ => ⟨S4x24576x1, .i32⟩
  | .hbm, ⟨50, _⟩ => ⟨S1, .i32⟩
  | .hbm, ⟨51, _⟩ => ⟨S_, .i32⟩
  | .hbm, ⟨52, _⟩ => ⟨S4x24576x1, .i32⟩
  | .hbm, ⟨53, _⟩ => ⟨S4x24576x1, .i1⟩
  | .hbm, ⟨54, _⟩ => ⟨S1x1x1, .i32⟩
  | .hbm, ⟨55, _⟩ => ⟨S4x24576x1, .i32⟩
  | .hbm, ⟨56, _⟩ => ⟨S4x24576x1, .i1⟩
  | .hbm, ⟨57, _⟩ => ⟨S4x24576x1, .i1⟩
  | .hbm, ⟨58, _⟩ => ⟨S_, .i1⟩
  | .hbm, ⟨59, _⟩ => ⟨S4x24576, .i1⟩
  | .hbm, ⟨60, _⟩ => ⟨S4x24576x32, .f32⟩
  | .hbm, ⟨61, _⟩ => ⟨S4x24576x32, .i1⟩
  | .hbm, ⟨62, _⟩ => ⟨S_, .f32⟩
  | .hbm, ⟨63, _⟩ => ⟨S4x24576x32, .f32⟩
  | .hbm, ⟨64, _⟩ => ⟨S4x24576x32, .f32⟩
  | .hbm, ⟨65, _⟩ => ⟨S4x8192x3x32, .f32⟩
  | .hbm, ⟨66, _⟩ => ⟨S4x8192x3x1, .f32⟩
  | .hbm, ⟨67, _⟩ => ⟨S4x8192x3x32, .f32⟩
  | .hbm, ⟨68, _⟩ => ⟨S4x8192x3x32, .f32⟩
  | .hbm, ⟨69, _⟩ => ⟨S_, .f32⟩
  | .hbm, ⟨70, _⟩ => ⟨S4x8192x32, .f32⟩
  | .hbm, ⟨71, _⟩ => ⟨S4x8192x48, .f32⟩
  | .hbm, ⟨72, _⟩ => ⟨S4x8192x64, .f32⟩
  | .hbm, ⟨73, _⟩ => ⟨S1x1x64, .f32⟩
  | .hbm, ⟨74, _⟩ => ⟨S4x8192x64, .f32⟩
  | .hbm, ⟨75, _⟩ => ⟨S4x8192x64, .f32⟩
  | .hbm, ⟨76, _⟩ => ⟨S_, .f32⟩
  | .hbm, ⟨77, _⟩ => ⟨S4x8192x64, .f32⟩
  | .hbm, ⟨78, _⟩ => ⟨S4x8192x64, .f32⟩
  | .hbm, ⟨79, _⟩ => ⟨S4x8192x64, .f32⟩
  | .hbm, ⟨80, _⟩ => ⟨S1x1x64, .f32⟩
  | .hbm, ⟨81, _⟩ => ⟨S4x8192x64, .f32⟩
  | .hbm, ⟨82, _⟩ => ⟨S4x8192x64, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_values : Ref sig .tc := ⟨.hbm, 28, rfl⟩
abbrev main_indices : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_1 : Ref sig .tc := ⟨.hbm, 50, rfl⟩
abbrev main_call0_c_2 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_c_3 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_cst : Ref sig .tc := ⟨.hbm, 62, rfl⟩
abbrev main_call0_v14 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_call1_cst : Ref sig .tc := ⟨.hbm, 76, rfl⟩
abbrev main_call1_v0 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]
-- ==== Proof.Smallest.lean ====
/-
  The three smallest of a row of 1024 keys, as the kernel finds them: the row is cut into eight runs of 128, each lane
  keeps the three smallest of its eight keys by a network of minima and maxima, and three rounds of "least over the lanes,
  then mask what equals it" read the row's three smallest off the lanes. Everything here is order theory; no floats.

  `low1_le`, `low2_le`, `low3_le`: the network's outputs are at most `t` exactly when one, two, three of the eight keys are
  (at a threshold a minimum is an "or" and a maximum an "and", so each is a statement about eight truth values).
  `round1_eq`, `round2_eq`, `round3_eq`: where the three smallest keys differ from one another and from the rest, and the
  masking value is not below the third, the three rounds return them.
-/
module

public import Idealize.ShloMosaic.Lib.Pointwise

@[expose] public section

noncomputable section

namespace Cert.Smallest

/-! ## The network -/

section Network
variable {α : Type} [LinearOrder α]

/-- The least of four keys. -/
def four1 (a b c d : α) : α := min (min a b) (min c d)
/-- The second least of four keys. -/
def four2 (a b c d : α) : α := min (max (min a b) (min c d)) (min (max a b) (max c d))
/-- The third least of four keys. -/
def four3 (a b c d : α) : α := max (max (min a b) (min c d)) (min (max a b) (max c d))

/-- The least of eight keys. -/
def low1 (x : Fin 8 → α) : α := min (four1 (x 0) (x 1) (x 2) (x 3)) (four1 (x 4) (x 5) (x 6) (x 7))
/-- The second least of eight keys. -/
def low2 (x : Fin 8 → α) : α :=
  min (max (four1 (x 0) (x 1) (x 2) (x 3)) (four1 (x 4) (x 5) (x 6) (x 7)))
    (min (four2 (x 0) (x 1) (x 2) (x 3)) (four2 (x 4) (x 5) (x 6) (x 7)))
/-- The third least of eight keys. -/
def low3 (x : Fin 8 → α) : α :=
  min (max (max (four1 (x 0) (x 1) (x 2) (x 3)) (four1 (x 4) (x 5) (x 6) (x 7)))
      (min (four2 (x 0) (x 1) (x 2) (x 3)) (four2 (x 4) (x 5) (x 6) (x 7))))
    (min (four3 (x 0) (x 1) (x 2) (x 3)) (four3 (x 4) (x 5) (x 6) (x 7)))

/-- Two of the eight, on truth values. -/
theorem two_of_bools : ∀ p : Fin 8 → Bool,
    (((((p 0 || p 1) || (p 2 || p 3)) && ((p 4 || p 5) || (p 6 || p 7)))
      || (((((p 0 || p 1) && (p 2 || p 3)) || ((p 0 && p 1) || (p 2 && p 3))))
        || ((((p 4 || p 5) && (p 6 || p 7)) || ((p 4 && p 5) || (p 6 && p 7)))))) = true)
      ↔ ∃ a b, a ≠ b ∧ p a = true ∧ p b = true := by
  decide +kernel

/-- Three of the eight, on truth values. -/
theorem three_of_bools : ∀ p : Fin 8 → Bool,
    ((((((p 0 || p 1) || (p 2 || p 3)) && ((p 4 || p 5) || (p 6 || p 7)))
        && (((((p 0 || p 1) && (p 2 || p 3)) || ((p 0 && p 1) || (p 2 && p 3))))
          || ((((p 4 || p 5) && (p 6 || p 7)) || ((p 4 && p 5) || (p 6 && p 7))))))
      || ((((p 0 || p 1) && (p 2 || p 3)) && ((p 0 && p 1) || (p 2 && p 3)))
        || (((p 4 || p 5) && (p 6 || p 7)) && ((p 4 && p 5) || (p 6 && p 7))))) = true)
      ↔ ∃ a b c, a ≠ b ∧ a ≠ c ∧ b ≠ c ∧ p a = true ∧ p b = true ∧ p c = true := by
  decide +kernel

/-- The network's first output is at most `t` when one of the keys is. -/
theorem low1_le (x : Fin 8 → α) (t : α) : low1 x ≤ t ↔ ∃ a, x a ≤ t := by
  simp only [low1, four1, min_le_iff, Fin.exists_fin_succ]
  simp
  tauto

/-- The network's second output is at most `t` when two of the keys are. -/
theorem low2_le (x : Fin 8 → α) (t : α) : low2 x ≤ t ↔ ∃ a b, a ≠ b ∧ x a ≤ t ∧ x b ≤ t := by
  have h := two_of_bools fun a => decide (x a ≤ t)
  simpa only [Bool.or_eq_true, Bool.and_eq_true, decide_eq_true_eq, low2, four1, four2, min_le_iff, max_le_iff] using h

/-- The network's third output is at most `t` when three of the keys are. -/
theorem low3_le (x : Fin 8 → α) (t : α) :
    low3 x ≤ t ↔ ∃ a b c, a ≠ b ∧ a ≠ c ∧ b ≠ c ∧ x a ≤ t ∧ x b ≤ t ∧ x c ≤ t := by
  have h := three_of_bools fun a => decide (x a ≤ t)
  simpa only [Bool.or_eq_true, Bool.and_eq_true, decide_eq_true_eq, low3, four1, four2, four3, min_le_iff, max_le_iff] using h

end Network

/-! ## The three rounds -/

/-- Key `a` of lane `l`: the row's key `128 a + l`. -/
def lane (K : Fin 1024 → EReal) (l : Fin 128) (a : Fin 8) : EReal := K ⟨128 * a.val + l.val, by omega⟩

/-- The lane a key lies in. -/
def laneOf (j : Fin 1024) : Fin 128 := ⟨j.val % 128, Nat.mod_lt _ (by decide)⟩
/-- Which of the lane's eight keys it is. -/
def runOf (j : Fin 1024) : Fin 8 := ⟨j.val / 128, by omega⟩

/-- A position is the entry of its own lane at its own run. -/
theorem lane_laneOf (K : Fin 1024 → EReal) (j : Fin 1024) : lane K (laneOf j) (runOf j) = K j := by
  unfold lane laneOf runOf
  congr 1
  exact Fin.ext (by simp only; omega)

/-- The least over the lanes, as the reduction from `+∞` computes it. -/
def least (f : Fin 128 → EReal) : EReal := Finset.univ.fold min ⊤ f

/-- The least over the lanes is below the bound exactly where some lane's value is. -/
theorem least_le (f : Fin 128 → EReal) {t : EReal} (ht : t < ⊤) : least f ≤ t ↔ ∃ l, f l ≤ t := by
  unfold least
  rw [Finset.fold_min_le]
  constructor
  · rintro (h | ⟨l, _, h⟩)
    · exact absurd h (not_le.mpr ht)
    · exact ⟨l, h⟩
  · rintro ⟨l, h⟩
    exact Or.inr ⟨l, Finset.mem_univ l, h⟩

/-- The least over the lanes bounds each of them from below. -/
theorem le_least (f : Fin 128 → EReal) {t : EReal} : t ≤ least f ↔ ∀ l, t ≤ f l := by
  unfold least
  rw [Finset.le_fold_min]
  simp

/-- `x`, or the masking value where `x` equals `m`. -/
def mask (big m x : EReal) : EReal := if x = m then big else x

variable (big : EReal) (K : Fin 1024 → EReal)

/-- The first round: the least of the lanes' first keys. -/
def round1 : EReal := least fun l => low1 (lane K l)
/-- A lane's first key after the first round. -/
def rest1 (l : Fin 128) : EReal := mask big (round1 K) (low1 (lane K l))
/-- The second round. -/
def round2 : EReal := min (least (rest1 big K)) (least fun l => low2 (lane K l))
/-- The third round. -/
def round3 : EReal :=
  least fun l => min (mask big (round2 big K) (rest1 big K l))
    (min (mask big (round2 big K) (low2 (lane K l))) (low3 (lane K l)))

/-- `i`, `j`, `k` hold the row's three smallest keys, which differ from one another and from the rest. -/
structure Nearest (K : Fin 1024 → EReal) (i j k : Fin 1024) : Prop where
  lt12 : K i < K j
  lt23 : K j < K k
  rest : ∀ q, q ≠ i → q ≠ j → q ≠ k → K k < K q

variable {K} {i j k : Fin 1024} (h : Nearest K i j k)
include h

namespace Nearest

/-- No key is below the first. -/
theorem le_first (q : Fin 1024) : K i ≤ K q := by
  by_cases hi : q = i
  · rw [hi]
  by_cases hj : q = j
  · rw [hj]; exact h.lt12.le
  by_cases hk : q = k
  · rw [hk]; exact (h.lt12.trans h.lt23).le
  exact (h.lt12.trans (h.lt23.trans (h.rest q hi hj hk))).le

/-- Only the first key is below the second. -/
theorem eq_first {q : Fin 1024} (hq : K q < K j) : q = i := by
  by_contra hi
  by_cases hj : q = j
  · rw [hj] at hq; exact lt_irrefl _ hq
  by_cases hk : q = k
  · rw [hk] at hq; exact lt_asymm hq h.lt23
  exact lt_asymm hq (h.lt23.trans (h.rest q hi hj hk))

/-- Only the first two keys are below the third. -/
theorem eq_first_or_second {q : Fin 1024} (hq : K q < K k) : q = i ∨ q = j := by
  by_contra hc
  push Not at hc
  by_cases hk : q = k
  · rw [hk] at hq; exact lt_irrefl _ hq
  exact lt_asymm hq (h.rest q hc.1 hc.2 hk)

/-- The keys at most the third smallest are the three. -/
theorem le_third_iff (q : Fin 1024) : K q ≤ K k ↔ q = i ∨ q = j ∨ q = k := by
  constructor
  · intro hq
    by_contra hc
    push Not at hc
    exact absurd hq (not_le.mpr (h.rest q hc.1 hc.2.1 hc.2.2))
  · rintro (rfl | rfl | rfl)
    · exact (h.lt12.trans h.lt23).le
    · exact h.lt23.le
    · exact le_rfl

/-- The first and second positions differ. -/
theorem ne12 : i ≠ j := fun e => h.lt12.ne (congrArg K e)
theorem ne23 : j ≠ k := fun e => h.lt23.ne (congrArg K e)
theorem ne13 : i ≠ k := fun e => (h.lt12.trans h.lt23).ne (congrArg K e)

end Nearest

omit h

/-- The position of key `a` of lane `l`. -/
def posOf (l : Fin 128) (a : Fin 8) : Fin 1024 := ⟨128 * a.val + l.val, by omega⟩

/-- Different runs give different positions of a lane. -/
theorem posOf_inj {l : Fin 128} {a b : Fin 8} (hab : a ≠ b) : posOf l a ≠ posOf l b := fun e => by
  have := congrArg Fin.val e
  simp only [posOf] at this
  exact hab (Fin.ext (by omega))

/-- A position made from a lane lies in it. -/
theorem laneOf_posOf (l : Fin 128) (a : Fin 8) : laneOf (posOf l a) = l := by
  unfold laneOf posOf
  exact Fin.ext (by simp only; omega)

/-- Two positions of one lane lie in different runs. -/
theorem runOf_ne {p q : Fin 1024} (hl : laneOf p = laneOf q) (hne : p ≠ q) : runOf p ≠ runOf q := fun e => hne (by
  have h1 := congrArg Fin.val hl
  have h2 := congrArg Fin.val e
  simp only [laneOf, runOf] at h1 h2
  exact Fin.ext (by omega))

/-- A lane's first key is at most `t` when a key of the lane is. -/
theorem lane1_le (l : Fin 128) (t : EReal) : low1 (lane K l) ≤ t ↔ ∃ q, laneOf q = l ∧ K q ≤ t := by
  rw [low1_le]
  constructor
  · rintro ⟨a, ha⟩
    exact ⟨posOf l a, laneOf_posOf l a, ha⟩
  · rintro ⟨q, rfl, hq⟩
    exact ⟨runOf q, (lane_laneOf K q).symm ▸ hq⟩

/-- A lane's second key is at most `t` when two keys of the lane are. -/
theorem lane2_le (l : Fin 128) (t : EReal) :
    low2 (lane K l) ≤ t ↔ ∃ p q, p ≠ q ∧ laneOf p = l ∧ laneOf q = l ∧ K p ≤ t ∧ K q ≤ t := by
  rw [low2_le]
  constructor
  · rintro ⟨a, b, hab, ha, hb⟩
    exact ⟨posOf l a, posOf l b, posOf_inj hab, laneOf_posOf l a, laneOf_posOf l b, ha, hb⟩
  · rintro ⟨p, q, hpq, rfl, hl, hp, hq⟩
    refine ⟨runOf p, runOf q, runOf_ne hl.symm hpq, (lane_laneOf K p).symm ▸ hp, ?_⟩
    rw [← hl]
    exact (lane_laneOf K q).symm ▸ hq

/-- A lane's third key is at most `t` when three keys of the lane are. -/
theorem lane3_le (l : Fin 128) (t : EReal) :
    low3 (lane K l) ≤ t ↔ ∃ p q r, p ≠ q ∧ p ≠ r ∧ q ≠ r ∧ (laneOf p = l ∧ laneOf q = l ∧ laneOf r = l)
      ∧ K p ≤ t ∧ K q ≤ t ∧ K r ≤ t := by
  rw [low3_le]
  constructor
  · rintro ⟨a, b, c, hab, hac, hbc, ha, hb, hc⟩
    exact ⟨posOf l a, posOf l b, posOf l c, posOf_inj hab, posOf_inj hac, posOf_inj hbc,
      ⟨laneOf_posOf l a, laneOf_posOf l b, laneOf_posOf l c⟩, ha, hb, hc⟩
  · rintro ⟨p, q, r, hpq, hpr, hqr, ⟨rfl, hq', hr'⟩, hp, hq, hr⟩
    refine ⟨runOf p, runOf q, runOf r, runOf_ne hq'.symm hpq, runOf_ne hr'.symm hpr, runOf_ne (hq'.trans hr'.symm) hqr,
      (lane_laneOf K p).symm ▸ hp, ?_, ?_⟩
    · rw [← hq']
      exact (lane_laneOf K q).symm ▸ hq
    · rw [← hr']
      exact (lane_laneOf K r).symm ▸ hr

include h

variable (htop : big < ⊤) (hbig : K k ≤ big)

/-- The first round returns the smallest key. -/
theorem round1_eq : round1 K = K i := by
  refine le_antisymm ?_ ?_
  · by_cases ht : K i < ⊤
    · exact (least_le _ ht).mpr ⟨laneOf i, (lane1_le _ _).mpr ⟨i, rfl, le_rfl⟩⟩
    · rw [not_lt_top_iff.mp ht]; exact le_top
  · refine (le_least _).mpr fun l => ?_
    by_contra hc
    obtain ⟨q, _, hq⟩ := (lane1_le l _).mp (le_refl (low1 (lane K l)))
    exact hc ((h.le_first q).trans hq)

/-- A lane's first key is the smallest key exactly in the smallest key's lane. -/
theorem low1_eq_first (l : Fin 128) : low1 (lane K l) = K i ↔ laneOf i = l := by
  constructor
  · intro e
    obtain ⟨q, hl, hq⟩ := (lane1_le l (K i)).mp e.le
    rw [← h.eq_first (hq.trans_lt h.lt12)]
    exact hl
  · intro e
    refine le_antisymm ((lane1_le l _).mpr ⟨i, e, le_rfl⟩) ?_
    obtain ⟨q, _, hq⟩ := (lane1_le l _).mp (le_refl (low1 (lane K l)))
    exact (h.le_first q).trans hq

/-- A lane's second key is at least the second smallest. -/
theorem second_le_low2 (l : Fin 128) : K j ≤ low2 (lane K l) := by
  by_contra hc
  obtain ⟨p, q, hpq, _, _, hp, hq⟩ := (lane2_le l _).mp (le_refl (low2 (lane K l)))
  push Not at hc
  exact hpq ((h.eq_first (hp.trans_lt hc)).trans (h.eq_first (hq.trans_lt hc)).symm)

include htop hbig

/-- The second round returns the second smallest key. -/
theorem round2_eq : round2 big K = K j := by
  have hj : K j < ⊤ := (h.lt23.trans_le hbig).trans htop
  refine le_antisymm ?_ (le_min ((le_least _).mpr fun l => ?_) ((le_least _).mpr fun l => second_le_low2 h l))
  · unfold round2
    by_cases hl : laneOf i = laneOf j
    · exact min_le_iff.mpr (Or.inr ((least_le _ hj).mpr ⟨laneOf j, (lane2_le _ _).mpr
        ⟨i, j, h.ne12, hl, rfl, h.lt12.le, le_rfl⟩⟩))
    · refine min_le_iff.mpr (Or.inl ((least_le _ hj).mpr ⟨laneOf j, ?_⟩))
      unfold rest1 mask
      rw [round1_eq h, if_neg (fun e => hl ((low1_eq_first h _).mp e))]
      exact (lane1_le _ _).mpr ⟨j, rfl, le_rfl⟩
  · unfold rest1 mask
    rw [round1_eq h]
    split
    · exact (h.lt23.le).trans hbig
    · rename_i hne
      by_contra hc
      push Not at hc
      obtain ⟨q, hq', hq⟩ := (lane1_le l _).mp (le_refl (low1 (lane K l)))
      exact hne ((low1_eq_first h l).mpr ((h.eq_first (hq.trans_lt hc)) ▸ hq'))

/-- The third round returns the third smallest key. -/
theorem round3_eq : round3 big K = K k := by
  have hk : K k < ⊤ := hbig.trans_lt htop
  unfold round3
  rw [round2_eq big h htop hbig]
  refine le_antisymm ((least_le _ hk).mpr ⟨laneOf k, ?_⟩) ((le_least _).mpr fun l => le_min ?_ (le_min ?_ ?_))
  · by_cases hi : laneOf i = laneOf k
    · by_cases hj : laneOf j = laneOf k
      · -- all three in one lane: its third key
        exact min_le_of_right_le (min_le_of_right_le ((lane3_le _ _).mpr ⟨i, j, k, h.ne12, h.ne13, h.ne23, ⟨hi, hj, rfl⟩,
          (h.lt12.trans h.lt23).le, h.lt23.le, le_rfl⟩))
      · -- the smallest and the third: the lane's second key, above the second smallest
        refine min_le_of_right_le (min_le_of_left_le ?_)
        unfold mask
        rw [if_neg]
        · exact (lane2_le _ _).mpr ⟨i, k, h.ne13, hi, rfl, (h.lt12.trans h.lt23).le, le_rfl⟩
        · intro e
          obtain ⟨p, q, hpq, hp', hq', hp, hq⟩ := (lane2_le (laneOf k) _).mp e.le
          rcases h.eq_first_or_second (hp.trans_lt h.lt23) with rfl | rfl
          · rcases h.eq_first_or_second (hq.trans_lt h.lt23) with rfl | rfl
            · exact hpq rfl
            · exact hj hq'
          · exact hj hp'
    · by_cases hj : laneOf j = laneOf k
      · -- the second and the third: the lane's second key
        refine min_le_of_right_le (min_le_of_left_le ?_)
        unfold mask
        rw [if_neg]
        · exact (lane2_le _ _).mpr ⟨j, k, h.ne23, hj, rfl, h.lt23.le, le_rfl⟩
        · intro e
          obtain ⟨p, q, hpq, hp', hq', hp, hq⟩ := (lane2_le (laneOf k) _).mp e.le
          rcases h.eq_first_or_second (hp.trans_lt h.lt23) with rfl | rfl
          · exact hi hp'
          · rcases h.eq_first_or_second (hq.trans_lt h.lt23) with rfl | rfl
            · exact hi hq'
            · exact hpq rfl
      · -- the third alone: the lane's first key
        refine min_le_of_left_le ?_
        have hle : low1 (lane K (laneOf k)) ≤ K k := (lane1_le _ _).mpr ⟨k, rfl, le_rfl⟩
        have hne : low1 (lane K (laneOf k)) ≠ K j := fun e => by
          obtain ⟨q, hq', hq⟩ := (lane1_le (laneOf k) _).mp e.le
          rcases h.eq_first_or_second (hq.trans_lt h.lt23) with rfl | rfl
          · exact hi hq'
          · exact hj hq'
        unfold rest1
        rw [round1_eq h]
        unfold mask
        rw [if_neg (fun e => hi ((low1_eq_first h _).mp e)), if_neg hne]
        exact hle
  · unfold rest1
    rw [round1_eq h]
    unfold mask
    by_cases h1 : low1 (lane K l) = K i
    · rw [if_pos h1]
      split
      · exact hbig
      · exact hbig
    · rw [if_neg h1]
      split
      · exact hbig
      · rename_i hne
        by_contra hc
        push Not at hc
        obtain ⟨q, hq', hq⟩ := (lane1_le l _).mp (le_refl (low1 (lane K l)))
        have hi : ¬laneOf i = l := fun e => h1 ((low1_eq_first h l).mpr e)
        rcases h.eq_first_or_second (hq.trans_lt hc) with rfl | rfl
        · exact hi hq'
        · refine hne (le_antisymm ((lane1_le l _).mpr ⟨q, hq', le_rfl⟩) hq)
  · unfold mask
    split
    · exact hbig
    · rename_i hne
      by_contra hc
      push Not at hc
      obtain ⟨p, q, hpq, hp', hq', hp, hq⟩ := (lane2_le l _).mp (le_refl (low2 (lane K l)))
      refine hne (le_antisymm ((lane2_le l _).mpr ⟨i, j, h.ne12, ?_, ?_, h.lt12.le, le_rfl⟩) (second_le_low2 h l))
      · rcases h.eq_first_or_second (hp.trans_lt hc) with rfl | rfl
        · exact hp'
        · rcases h.eq_first_or_second (hq.trans_lt hc) with rfl | rfl
          · exact hq'
          · exact absurd rfl hpq
      · rcases h.eq_first_or_second (hp.trans_lt hc) with rfl | rfl
        · rcases h.eq_first_or_second (hq.trans_lt hc) with rfl | rfl
          · exact absurd rfl hpq
          · exact hq'
        · exact hp'
  · by_contra hc
    push Not at hc
    obtain ⟨p, q, r, hpq, hpr, hqr, _, hp, hq, hr⟩ := (lane3_le l _).mp (le_refl (low3 (lane K l)))
    rcases h.eq_first_or_second (hp.trans_lt hc) with rfl | rfl <;>
      rcases h.eq_first_or_second (hq.trans_lt hc) with rfl | rfl <;>
        rcases h.eq_first_or_second (hr.trans_lt hc) with rfl | rfl <;> simp_all

end Cert.Smallest

end
-- ==== Proof.TopK.lean ====
/-
  `top_k` of a [4, 8192, 1024] array over its last axis, read at an index, and what the stable sort behind it says about a
  row: `order f` is the row's positions, largest value first; when its first four values fall strictly, the first three
  positions are the three nearest in the sense of `Smallest.Nearest` for the negated row.
-/
module

public import Idealize.ShloMosaic.Lib.Pointwise
public import Idealize.ShloMosaic.Lib.SortFacts
public import proofs.«01_k».proof.Proof.Smallest

@[expose] public section

noncomputable section

namespace Cert.TopK
open Idealize.ShloMosaic
open Cert.Smallest

/-- The positions of a row in the order `top_k` lists them. -/
def order {N : Nat} (f : Fin N → EReal) : Fin N → Fin N :=
  sortedFrom fun p q => (FloatOps.cmpfTotal (F := Ideal) (φ := .f32) .gt (f p) (f q) == 1#1)

/-- The total comparison of two extended reals is their order. -/
theorem gt_iff (x y : EReal) : (FloatOps.cmpfTotal (F := Ideal) (φ := .f32) .gt x y == 1#1) = decide (y < x) := by
  show (BitVec.ofBool (decide (y < x)) == 1#1) = decide (y < x)
  cases decide (y < x) <;> rfl

/-- Later positions hold smaller values. -/
theorem order_anti {N : Nat} (f : Fin N → EReal) {p q : Fin N} (h : p < q) : f (order f q) ≤ f (order f p) := by
  have := sortedFrom_noInversion (fun p q : Fin N => decide (f q < f p))
    (fun p q => (FloatOps.cmpfTotal (F := Ideal) (φ := .f32) .gt (f p) (f q) == 1#1))
    (fun a b hab => by rw [gt_iff] at hab; simp only [decide_eq_true_eq, decide_eq_false_iff_not, not_lt] at *; exact hab.le)
    (fun a b hab => by rw [gt_iff]; exact hab)
    (fun a b c hab hbc => by simp only [decide_eq_false_iff_not, not_lt] at *; exact hab.trans hbc) p q h
  simp only [decide_eq_false_iff_not, not_lt] at this
  exact this

/-- Every position occurs in the order. -/
theorem order_surjective {N : Nat} (f : Fin N → EReal) : Function.Surjective (order f) := sortedFrom_surjective _

/-! ## `top_k` at an index -/

/-- Replacing the last coordinate of a three-axis index. -/
theorem along_last {A B N : Nat} (b : Fin A) (n : Fin B) (p q : Fin N) :
    Shape.Idx.along (s := ⟨3, ![A, B, N]⟩) (ix3 b n p) ⟨2, Nat.lt_succ_self 2⟩ q = ix3 b n q := by
  funext a
  match a with
  | ⟨0, _⟩ => rfl
  | ⟨1, _⟩ => rfl
  | ⟨2, _⟩ => rfl

/-- The stable sort of values carrying a companion, read at an index. -/
theorem sort_at {A B N : Nat} {β : Type} (x : (⟨3, ![A, B, N]⟩ : Shape).Idx → EReal) (y : (⟨3, ![A, B, N]⟩ : Shape).Idx → β)
    (b : Fin A) (n : Fin B) (p : Fin N) :
    (Host.sort2 ⟨3, ![A, B, N]⟩ 2 (fun l r : EReal × β => FloatOps.cmpfTotal (F := Ideal) (φ := .f32) .gt l.1 r.1) x y).1 (ix3 b n p)
        = x (ix3 b n (order (fun j => x (ix3 b n j)) p))
      ∧ (Host.sort2 ⟨3, ![A, B, N]⟩ 2 (fun l r : EReal × β => FloatOps.cmpfTotal (F := Ideal) (φ := .f32) .gt l.1 r.1) x y).2 (ix3 b n p)
        = y (ix3 b n (order (fun j => x (ix3 b n j)) p)) := by
  have hπ : (sortedFrom fun k k' : Fin N => (FloatOps.cmpfTotal (F := Ideal) (φ := .f32) .gt
        (x (Shape.Idx.along (s := ⟨3, ![A, B, N]⟩) (ix3 b n p) ⟨2, Nat.lt_succ_self 2⟩ k))
        (x (Shape.Idx.along (s := ⟨3, ![A, B, N]⟩) (ix3 b n p) ⟨2, Nat.lt_succ_self 2⟩ k')) == 1#1)) p
      = order (fun j => x (ix3 b n j)) p := by
    unfold order
    refine congrFun (congrArg sortedFrom ?_) p
    funext k k'
    rw [along_last, along_last]
  unfold Host.sort2
  rw [dif_pos (show 2 < (⟨3, ![A, B, N]⟩ : Shape).rank from Nat.lt_succ_self 2)]
  exact ⟨congrArg x ((along_last b n p _).trans (congrArg (ix3 b n) hπ)),
    congrArg y ((along_last b n p _).trans (congrArg (ix3 b n) hπ))⟩

/-- A slice that starts at zero reads at the same index. -/
theorem slice_at {A B N k : Nat} {α : Type} (h : (⟨3, ![A, B, N]⟩ : Shape).Slices (fun _ => 0) ⟨3, ![A, B, k]⟩)
    (x : (⟨3, ![A, B, N]⟩ : Shape).Idx → α) (hk : k ≤ N) (b : Fin A) (n : Fin B) (q : Fin k) :
    extractStridedSlice ⟨3, ![A, B, k]⟩ (fun _ => 0) x h (ix3 b n q) = x (ix3 b n (q.castLE hk)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- Every index's position along the last axis, as a word. -/
def positions (A B N : Nat) : IVec ⟨3, ![A, B, N]⟩ 32 := fun i =>
  if hd : 2 < (⟨3, ![A, B, N]⟩ : Shape).rank then iotaInDim ⟨3, ![A, B, N]⟩ 32 ⟨2, hd⟩ i else 0#32

/-- The positions array at an index. -/
theorem positions_at {A B N : Nat} (b : Fin A) (n : Fin B) (p : Fin N) :
    positions A B N (ix3 b n p) = BitVec.ofNat 32 p.val := by
  unfold positions
  rw [dif_pos (show 2 < (⟨3, ![A, B, N]⟩ : Shape).rank from Nat.lt_succ_self 2)]
  rfl

/-- The top-k pair as slices of the sorted row and of its positions. -/
theorem topK_eq {A B N k : Nat} (x : FVec Ideal ⟨3, ![A, B, N]⟩ .f32)
    (h : (⟨3, ![A, B, N]⟩ : Shape).Slices (fun _ => 0) ⟨3, ![A, B, k]⟩) :
    Host.topK ⟨3, ![A, B, k]⟩ 2 (FloatOps.cmpfTotal .gt) x h
      = (extractStridedSlice ⟨3, ![A, B, k]⟩ (fun _ => 0) (Host.sort2 ⟨3, ![A, B, N]⟩ 2
            (fun l r : EReal × BitVec 32 => FloatOps.cmpfTotal (F := Ideal) (φ := .f32) .gt l.1 r.1) x (positions A B N)).1 h,
          extractStridedSlice ⟨3, ![A, B, k]⟩ (fun _ => 0) (Host.sort2 ⟨3, ![A, B, N]⟩ 2
            (fun l r : EReal × BitVec 32 => FloatOps.cmpfTotal (F := Ideal) (φ := .f32) .gt l.1 r.1) x (positions A B N)).2 h) := by
  unfold Host.topK positions
  rfl

/-- `top_k` read at an index: the values. -/
theorem topK_value {A B N k : Nat} (x : FVec Ideal ⟨3, ![A, B, N]⟩ .f32)
    (h : (⟨3, ![A, B, N]⟩ : Shape).Slices (fun _ => 0) ⟨3, ![A, B, k]⟩) (hk : k ≤ N) (b : Fin A) (n : Fin B) (q : Fin k) :
    (Host.topK ⟨3, ![A, B, k]⟩ 2 (FloatOps.cmpfTotal .gt) x h).1 (ix3 b n q)
      = x (ix3 b n (order (fun j => x (ix3 b n j)) (q.castLE hk))) := by
  rw [topK_eq]
  exact (slice_at h _ hk b n q).trans (sort_at x (positions A B N) b n (q.castLE hk)).1

/-- `top_k` read at an index: the positions, as words. -/
theorem topK_position {A B N k : Nat} (x : FVec Ideal ⟨3, ![A, B, N]⟩ .f32)
    (h : (⟨3, ![A, B, N]⟩ : Shape).Slices (fun _ => 0) ⟨3, ![A, B, k]⟩) (hk : k ≤ N) (b : Fin A) (n : Fin B) (q : Fin k) :
    (Host.topK ⟨3, ![A, B, k]⟩ 2 (FloatOps.cmpfTotal .gt) x h).2 (ix3 b n q)
      = BitVec.ofNat 32 (order (fun j => x (ix3 b n j)) (q.castLE hk)).val := by
  rw [topK_eq]
  exact ((slice_at h _ hk b n q).trans (sort_at x (positions A B N) b n (q.castLE hk)).2).trans (positions_at b n _)

/-! ## The three nearest -/

/-- The first, second, third and fourth positions of a row of distances, nearest first. -/
def near (D : Fin 1024 → EReal) : Fin 1024 → Fin 1024 := order fun j => -D j

/-- A later nearest position is no nearer. -/
theorem near_mono (D : Fin 1024 → EReal) {p q : Fin 1024} (h : p ≤ q) : D (near D p) ≤ D (near D q) := by
  rcases h.lt_or_eq with h | rfl
  · exact EReal.neg_le_neg_iff.mp (order_anti (fun j => -D j) h)
  · exact le_rfl

/-- Nothing is nearer than the first position. -/
theorem near_first_le (D : Fin 1024 → EReal) (q : Fin 1024) : D (near D 0) ≤ D q := by
  obtain ⟨p, rfl⟩ := order_surjective (fun j => -D j) q
  exact near_mono D (Fin.zero_le p)

/-- Where the four nearest distances differ, the first three positions are the three nearest. -/
theorem nearest_near (D : Fin 1024 → EReal) (h01 : D (near D 0) < D (near D 1)) (h12 : D (near D 1) < D (near D 2))
    (h23 : D (near D 2) < D (near D 3)) : Nearest D (near D 0) (near D 1) (near D 2) where
  lt12 := h01
  lt23 := h12
  rest q h0 h1 h2 := by
    obtain ⟨p, rfl⟩ := order_surjective (fun j => -D j) q
    refine lt_of_lt_of_le h23 (near_mono D (p := 3) (q := p) ?_)
    by_contra hc
    have hp : p.val < 3 := not_le.mp hc
    have : p = 0 ∨ p = 1 ∨ p = 2 := by
      rcases p with ⟨v, hv⟩
      have : v < 3 := hp
      interval_cases v
      · exact Or.inl rfl
      · exact Or.inr (Or.inl rfl)
      · exact Or.inr (Or.inr rfl)
    rcases this with rfl | rfl | rfl
    · exact h0 rfl
    · exact h1 rfl
    · exact h2 rfl

end Cert.TopK

end
-- ==== Proof.Distance.lean ====
/-
  The squared distance between a target point and a source point as all three programs write it, and what the
  precondition says of a row of them.
-/
module

public import proofs.«01_k».proof.Proof.TopK
public import proofs.«01_k».proof.Pre_apart

@[expose] public section

set_option maxRecDepth 16384

noncomputable section

namespace Cert.Distance
open Idealize.ShloMosaic
open Cert.Smallest Cert.TopK Cert.Pre_apart.Facts

/-- The squared distance, expanded: the two squared norms less twice the inner product. -/
def sqDist (xt : FVec Ideal ⟨3, ![4, 8192, 3]⟩ .f32) (xs : FVec Ideal ⟨3, ![4, 1024, 3]⟩ .f32) (b : Fin 4) (n : Fin 8192)
    (j : Fin 1024) : EReal :=
  ((∑ c : Fin 3, xt (ix3 b n c) * xt (ix3 b n c)) + ∑ c : Fin 3, xs (ix3 b j c) * xs (ix3 b j c))
    - Ideal.ofBits .f32 0x40000000#32 * ∑ c : Fin 3, xt (ix3 b n c) * xs (ix3 b j c)

/-- The kernel's floor under the distances, 1e-30. -/
def floor : EReal := Ideal.ofBits .f32 0x0DA24260#32
/-- The kernel's masking value, 3.4e38. -/
def big : EReal := Ideal.ofBits .f32 0x7F7FC99E#32

/-- The 1e-8 both programs add to a distance before they divide by it. -/
def eps : EReal := Ideal.ofBits .f32 0x322BCC77#32

/-- The reciprocal of a raised distance. -/
def recip (x : EReal) : EReal := Ideal.div 1 (x + eps)

/-- The first three positions of a row, nearest first. -/
def near3 (D : Fin 1024 → EReal) (k : Fin 3) : Fin 1024 := near D (k.castLE (by decide))

/-- The interpolation of one feature over a row: the three nearest points' features, weighted by their reciprocals over
    the sum of the three. -/
def blend (D f : Fin 1024 → EReal) : EReal :=
  ∑ k : Fin 3, f (near3 D k) * Ideal.div (recip (D (near3 D k))) (∑ k : Fin 3, recip (D (near3 D k)))

/-- The floor is positive. -/
theorem floor_pos : 0 < floor := by
  unfold floor
  simp [Ideal.ofBits, Ideal.ieee]
  rw [← EReal.coe_mul]
  exact EReal.coe_pos.mpr (by positivity)

/-- The summand in the reciprocals is positive. -/
theorem eps_pos : 0 < eps := by
  unfold eps
  simp [Ideal.ofBits, Ideal.ieee]
  rw [← EReal.coe_mul]
  exact EReal.coe_pos.mpr (by positivity)

/-- The summand in the reciprocals is finite. -/
theorem eps_lt_top : eps < ⊤ := by
  unfold eps
  simp [Ideal.ofBits, Ideal.ieee]
  rw [← EReal.coe_mul]
  exact EReal.coe_lt_top _

/-- The mask is finite. -/
theorem big_lt_top : big < ⊤ := by
  unfold big
  simp [Ideal.ofBits, Ideal.ieee]
  rw [← EReal.coe_pow, ← EReal.coe_mul]
  exact EReal.coe_lt_top _

/-- The four nearest distances of a row differ, the first is not below the floor and the third not above the mask. -/
structure Apart (D : Fin 1024 → EReal) : Prop where
  low : floor ≤ D (near D 0)
  lt01 : D (near D 0) < D (near D 1)
  lt12 : D (near D 1) < D (near D 2)
  lt23 : D (near D 2) < D (near D 3)
  high : D (near D 2) ≤ big

/-- Under the precondition no distance of the row is below the floor. -/
theorem Apart.floor_le {D : Fin 1024 → EReal} (h : Apart D) (j : Fin 1024) : floor ≤ D j := h.low.trans (near_first_le D j)

/-- Distances that are apart are positive. -/
theorem Apart.pos {D : Fin 1024 → EReal} (h : Apart D) (j : Fin 1024) : 0 < D j := floor_pos.trans_le (h.floor_le j)

/-- The first three of a row that is apart are its three strictly smallest. -/
theorem Apart.nearest {D : Fin 1024 → EReal} (h : Apart D) : Nearest D (near D 0) (near D 1) (near D 2) :=
  nearest_near D h.lt01 h.lt12 h.lt23

/-- A conjunction of two bits is one exactly where both are. -/
theorem andi_one (a b : BitVec 1) : IntOp.andi a b = 1#1 ↔ a = 1#1 ∧ b = 1#1 := by
  revert a b
  decide

/-- The bit of a decision is one exactly where the proposition holds. -/
theorem ofBool_one (p : Prop) [Decidable p] : BitVec.ofBool (decide p) = 1#1 ↔ p := by
  by_cases h : p <;> simp [h]

/-- The precondition says of every target that its distances are apart. -/
theorem apart_of_pre [Cert.Pre_apart.Facts] (xt : FVec Ideal ⟨3, ![4, 8192, 3]⟩ .f32) (xs : FVec Ideal ⟨3, ![4, 1024, 3]⟩ .f32)
    (a2 a3 a4 a5 a6 a7) (h : Cert.Pre_apart.fn (F := Ideal) xt xs a2 a3 a4 a5 a6 a7 = fun _ => 1#1) (b : Fin 4) (n : Fin 8192) :
    Apart (sqDist xt xs b n) := by
  have hb := congrFun h (ix3 b n 0)
  pointwise [Cert.Pre_apart.fn, Cert.Pre_apart.fn_part1] at hb
  simp only [topK_value (A := 4) (B := 8192) (N := 1024) (k := 4) _ _ (by decide : 4 ≤ 1024)] at hb
  have hrow : ∀ j : Fin 1024, subf (addf
      (broadcastInDim Pre_apart.S4x8192x1024 ![0, 1, 2] bcast_S4x8192x1_S4x8192x1024_0_1_2
        (broadcastInDim Pre_apart.S4x8192x1 ![0, 1] bcast_S4x8192_S4x8192x1_0_1
          (Host.reduceAdd (mulf xt xt) (constant Pre_apart.S_ FTy.f32 0#32) reducesTo_S4x8192x3_S4x8192_d2 h_S_)))
      (broadcastInDim Pre_apart.S4x8192x1024 ![0, 1, 2] bcast_S4x1x1024_S4x8192x1024_0_1_2
        (broadcastInDim Pre_apart.S4x1x1024 ![0, 2] bcast_S4x1024_S4x1x1024_0_2
          (Host.reduceAdd (mulf xs xs) (constant Pre_apart.S_ FTy.f32 0#32) reducesTo_S4x1024x3_S4x1024_d2 h_S_))))
      (mulf (broadcastInDim Pre_apart.S4x8192x1024 ![] bcast_S_S4x8192x1024 (constant Pre_apart.S_ FTy.f32 1073741824#32))
        (Ideal.matmul Pre_apart.dot_S4x8192x3_S4x1024x3_S4x8192x1024_2_2_1_1_0_0 xt xs fun _ => 0)) (ix3 b n j)
      = sqDist xt xs b n j := by
    intro j
    pointwise [sqDist]
  have hneg : ∀ x : EReal, FloatOps.hostNegf (F := Ideal) (φ := .f32) x = -x := fun _ => rfl
  have e0 : (0 : Fin 4).castLE (by decide : 4 ≤ 1024) = (0 : Fin 1024) := rfl
  have e1 : (1 : Fin 4).castLE (by decide : 4 ≤ 1024) = (1 : Fin 1024) := rfl
  have e2 : (2 : Fin 4).castLE (by decide : 4 ≤ 1024) = (2 : Fin 1024) := rfl
  have e3 : (3 : Fin 4).castLE (by decide : 4 ≤ 1024) = (3 : Fin 1024) := rfl
  simp only [Host.negf, hneg, hrow, neg_neg, e0, e1, e2, e3, andi_one, ofBool_one] at hb
  obtain ⟨⟨⟨⟨h0, h1⟩, h2⟩, h3⟩, h4⟩ := hb
  exact ⟨h0, h1, h2, h3, h4⟩

end Cert.Distance

end
-- ==== Proof.Blend.lean ====
/-
  The weighted sum over a whole row, where all but the three nearest have weight zero, against the sum over the three: the
  kernel divides the sum by the reciprocals' total, the reference each weight.
-/
module

public import Idealize.ShloMosaic.Lib.IdealHost
public import proofs.«01_k».proof.Proof.Distance

@[expose] public section

noncomputable section

namespace Cert.Blend
open Idealize.ShloMosaic
open Cert.Smallest Cert.TopK Cert.Distance

/-- A distance between the floor and the mask has a positive real reciprocal. -/
theorem recip_real {x : EReal} (hlo : 0 < x) (hhi : x ≤ big) : ∃ q : ℝ, 0 < q ∧ recip x = (q : EReal) := by
  obtain ⟨e, he⟩ : ∃ e : ℝ, eps = (e : EReal) := by
    cases h : eps with
    | bot => exact absurd (h ▸ eps_pos) (not_lt.mpr bot_le)
    | top => exact absurd (h ▸ eps_lt_top) (lt_irrefl _)
    | coe e => exact ⟨e, rfl⟩
  have he0 : 0 < e := EReal.coe_pos.mp (he ▸ eps_pos)
  cases x with
  | bot => exact absurd hlo (not_lt.mpr bot_le)
  | top => exact absurd (hhi.trans_lt big_lt_top) (lt_irrefl _)
  | coe x =>
    have hx : 0 < x := EReal.coe_pos.mp hlo
    refine ⟨1 / (x + e), by positivity, ?_⟩
    unfold recip
    rw [he, ← EReal.coe_add, Ideal.div_coe (ne_of_gt (by positivity : (0 : ℝ) < x + e)), one_mul]

/-- The sum over a row of a function that vanishes off the three nearest. -/
theorem sum_nearest {D : Fin 1024 → EReal} {i j k : Fin 1024} (h : Nearest D i j k) (g : Fin 1024 → EReal)
    (hg : ∀ q, q ≠ i → q ≠ j → q ≠ k → g q = 0) : ∑ q, g q = g i + g j + g k := by
  rw [← Finset.sum_subset (Finset.subset_univ {i, j, k}) fun q _ hq => ?_]
  · rw [Finset.sum_insert (by simp [h.ne12, h.ne13]), Finset.sum_insert (by simp [h.ne23]), Finset.sum_singleton, add_assoc]
  · simp only [Finset.mem_insert, Finset.mem_singleton, not_or] at hq
    exact hg q hq.1 hq.2.1 hq.2.2

/-- The masked sum over the whole row, scaled by the reciprocal of the weights' sum, is the sum over the three nearest of their features with normalised weights. -/
theorem blend_eq {D : Fin 1024 → EReal} (h : Apart D) (f : Fin 1024 → EReal) :
    Ideal.div 1 (recip (D (near D 0)) + recip (D (near D 1)) + recip (D (near D 2)))
      * (∑ j, (if D j ≤ D (near D 2) then recip (D j) else 0) * f j) = blend D f := by
  have hn := h.nearest
  obtain ⟨r0, p0, e0⟩ := recip_real (h.pos (near D 0)) ((h.lt01.trans h.lt12).le.trans h.high)
  obtain ⟨r1, p1, e1⟩ := recip_real (h.pos (near D 1)) (h.lt12.le.trans h.high)
  obtain ⟨r2, p2, e2⟩ := recip_real (h.pos (near D 2)) h.high
  have hs : (r0 + r1 + r2 : ℝ) ≠ 0 := by positivity
  rw [sum_nearest hn _ fun q h0 h1 h2 => by
    rw [if_neg fun hq => ((hn.le_third_iff q).mp hq).elim h0 fun hq => hq.elim h1 h2, zero_mul]]
  rw [if_pos ((hn.le_third_iff _).mpr (Or.inl rfl)), if_pos ((hn.le_third_iff _).mpr (Or.inr (Or.inl rfl))),
    if_pos ((hn.le_third_iff _).mpr (Or.inr (Or.inr rfl)))]
  unfold blend
  rw [Fin.sum_univ_three, Fin.sum_univ_three]
  show _ = f (near D 0) * Ideal.div (recip (D (near D 0))) (recip (D (near D 0)) + recip (D (near D 1)) + recip (D (near D 2)))
    + f (near D 1) * Ideal.div (recip (D (near D 1))) (recip (D (near D 0)) + recip (D (near D 1)) + recip (D (near D 2)))
    + f (near D 2) * Ideal.div (recip (D (near D 2))) (recip (D (near D 0)) + recip (D (near D 1)) + recip (D (near D 2)))
  rw [e0, e1, e2, ← EReal.coe_add, ← EReal.coe_add]
  simp only [Ideal.div_coe hs, one_mul]
  have ht : (0 : EReal) ≤ ((1 / (r0 + r1 + r2) : ℝ) : EReal) := EReal.coe_nonneg.mpr (by positivity)
  rw [EReal.left_distrib_of_nonneg_of_ne_top ht (EReal.coe_ne_top _), EReal.left_distrib_of_nonneg_of_ne_top ht (EReal.coe_ne_top _)]
  refine congrArg₂ (· + ·) (congrArg₂ (· + ·) ?_ ?_) ?_ <;>
  · rw [mul_comm (f _), ← mul_assoc, mul_comm (((1 / (r0 + r1 + r2) : ℝ) : EReal))]

end Cert.Blend

end
-- ==== Proof.Block.lean ====
/-
  What one grid point of the kernel computes, read at an index of its block.

  A row of the block has 1024 keys, its distances raised to the floor. The payloads up to the third-round result are the
  tournament of `Smallest` over those keys; where the row's three smallest keys are known, the weights, their sum and the
  two layers are read off.
-/
module

public import Idealize.ShloMosaic.Lib.IdealHost
public import proofs.«01_k».proof.Proof.Gen.KernelIdeal.Frame
public import proofs.«01_k».proof.Proof.Distance
public import proofs.«01_k».proof.Proof.Blend

@[expose] public section

set_option maxRecDepth 16384

noncomputable section

namespace Cert.Block
open Idealize.ShloMosaic
open Cert.KernelIdeal Cert.KernelIdeal.Gen
open Cert.Smallest Cert.Distance

section Keys
variable (v0 : Vec Ideal S1x2048x3 .f32) (v2 : Vec Ideal S1x1024x3 .f32) (v5 : Vec Ideal S1x2048x1 .f32) (v7 : Vec Ideal S1x1x1024 .f32)

/-- The keys of row `r`. -/
def keys (r : Fin 2048) (j : Fin 1024) : EReal :=
  max (v5 (ix3 0 r 0) + v7 (ix3 0 0 j) - Ideal.ofBits .f32 0x40000000#32 * ∑ c : Fin 3, v0 (ix3 0 r c) * v2 (ix3 0 j c)) Distance.floor

/-- The keys at an index. -/
theorem pay2_at (r : Fin 2048) (j : Fin 1024) : k0_pay2 v0 v2 v5 v7 (ix2 r j) = keys v0 v2 v5 v7 r j := by
  pointwise [k0_pay2, keys, Distance.floor]

/-- The least of each lane's first four runs. -/
theorem pay17_at (r : Fin 2048) (l : Fin 128) : k0_pay17 v0 v2 v5 v7 (ix2 r l)
    = four1 (lane (keys v0 v2 v5 v7 r) l 0) (lane (keys v0 v2 v5 v7 r) l 1) (lane (keys v0 v2 v5 v7 r) l 2) (lane (keys v0 v2 v5 v7 r) l 3) := by
  pointwise [k0_pay17, k0_pay3, k0_pay4, k0_pay5, k0_pay6, k0_pay7, k0_pay8, k0_pay9, k0_pay10, k0_pay11, k0_pay12, k0_pay13, k0_pay14, k0_pay15, k0_pay16, k0_pay20, k0_pay21, four1, lane, pay2_at]

/-- The second of each lane's first four runs. -/
theorem pay18_at (r : Fin 2048) (l : Fin 128) : k0_pay18 v0 v2 v5 v7 (ix2 r l)
    = four2 (lane (keys v0 v2 v5 v7 r) l 0) (lane (keys v0 v2 v5 v7 r) l 1) (lane (keys v0 v2 v5 v7 r) l 2) (lane (keys v0 v2 v5 v7 r) l 3) := by
  pointwise [k0_pay18, k0_pay3, k0_pay4, k0_pay5, k0_pay6, k0_pay7, k0_pay8, k0_pay9, k0_pay10, k0_pay11, k0_pay12, k0_pay13, k0_pay14, k0_pay15, k0_pay16, k0_pay20, k0_pay21, four2, lane, pay2_at]

/-- The third of each lane's first four runs. -/
theorem pay19_at (r : Fin 2048) (l : Fin 128) : k0_pay19 v0 v2 v5 v7 (ix2 r l)
    = four3 (lane (keys v0 v2 v5 v7 r) l 0) (lane (keys v0 v2 v5 v7 r) l 1) (lane (keys v0 v2 v5 v7 r) l 2) (lane (keys v0 v2 v5 v7 r) l 3) := by
  pointwise [k0_pay19, k0_pay3, k0_pay4, k0_pay5, k0_pay6, k0_pay7, k0_pay8, k0_pay9, k0_pay10, k0_pay11, k0_pay12, k0_pay13, k0_pay14, k0_pay15, k0_pay16, k0_pay20, k0_pay21, four3, lane, pay2_at]

/-- The least of each lane's last four runs. -/
theorem pay22_at (r : Fin 2048) (l : Fin 128) : k0_pay22 v0 v2 v5 v7 (ix2 r l)
    = four1 (lane (keys v0 v2 v5 v7 r) l 4) (lane (keys v0 v2 v5 v7 r) l 5) (lane (keys v0 v2 v5 v7 r) l 6) (lane (keys v0 v2 v5 v7 r) l 7) := by
  pointwise [k0_pay22, k0_pay3, k0_pay4, k0_pay5, k0_pay6, k0_pay7, k0_pay8, k0_pay9, k0_pay10, k0_pay11, k0_pay12, k0_pay13, k0_pay14, k0_pay15, k0_pay16, k0_pay20, k0_pay21, four1, lane, pay2_at]

/-- The second of each lane's last four runs. -/
theorem pay23_at (r : Fin 2048) (l : Fin 128) : k0_pay23 v0 v2 v5 v7 (ix2 r l)
    = four2 (lane (keys v0 v2 v5 v7 r) l 4) (lane (keys v0 v2 v5 v7 r) l 5) (lane (keys v0 v2 v5 v7 r) l 6) (lane (keys v0 v2 v5 v7 r) l 7) := by
  pointwise [k0_pay23, k0_pay3, k0_pay4, k0_pay5, k0_pay6, k0_pay7, k0_pay8, k0_pay9, k0_pay10, k0_pay11, k0_pay12, k0_pay13, k0_pay14, k0_pay15, k0_pay16, k0_pay20, k0_pay21, four2, lane, pay2_at]

/-- The third of each lane's last four runs. -/
theorem pay24_at (r : Fin 2048) (l : Fin 128) : k0_pay24 v0 v2 v5 v7 (ix2 r l)
    = four3 (lane (keys v0 v2 v5 v7 r) l 4) (lane (keys v0 v2 v5 v7 r) l 5) (lane (keys v0 v2 v5 v7 r) l 6) (lane (keys v0 v2 v5 v7 r) l 7) := by
  pointwise [k0_pay24, k0_pay3, k0_pay4, k0_pay5, k0_pay6, k0_pay7, k0_pay8, k0_pay9, k0_pay10, k0_pay11, k0_pay12, k0_pay13, k0_pay14, k0_pay15, k0_pay16, k0_pay20, k0_pay21, four3, lane, pay2_at]

end Keys

/-! ## The rounds -/

/-- A selection by a comparison is an `if`. -/
theorem select_decide (p : Prop) [Decidable p] (x y : EReal) : Scalar.select (BitVec.ofBool (decide p)) x y = if p then x else y := by
  by_cases h : p
  · rw [decide_eq_true h, if_pos h]
    rfl
  · rw [decide_eq_false h, if_neg h]
    rfl

/-- The minimum's start value is the top of the extended reals. -/
theorem top_word : Ideal.ofBits .f32 0x7F800000#32 = ⊤ := by
  simp [Ideal.ofBits, Ideal.ieee]

section Rounds
variable (v35 v36 v37 v40 v41 v42 : FVec Ideal S2048x128 .f32) (K : Fin 1024 → EReal) (r : Fin 2048)

/-- The six arrays hold, along row `r`, the three least of the first and of the last four keys of each lane. -/
structure Net : Prop where
  a1 : ∀ l, v35 (ix2 r l) = four1 (lane K l 0) (lane K l 1) (lane K l 2) (lane K l 3)
  a2 : ∀ l, v36 (ix2 r l) = four2 (lane K l 0) (lane K l 1) (lane K l 2) (lane K l 3)
  a3 : ∀ l, v37 (ix2 r l) = four3 (lane K l 0) (lane K l 1) (lane K l 2) (lane K l 3)
  b1 : ∀ l, v40 (ix2 r l) = four1 (lane K l 4) (lane K l 5) (lane K l 6) (lane K l 7)
  b2 : ∀ l, v41 (ix2 r l) = four2 (lane K l 4) (lane K l 5) (lane K l 6) (lane K l 7)
  b3 : ∀ l, v42 (ix2 r l) = four3 (lane K l 4) (lane K l 5) (lane K l 6) (lane K l 7)

variable {v35 v36 v37 v40 v41 v42 K r} (h : Net v35 v36 v37 v40 v41 v42 K r)
include h

/-- The least of each lane. -/
theorem pay27_at (l : Fin 128) : k0_pay27 v35 v40 (ix2 r l) = low1 (lane K l) := by
  pointwise [k0_pay27, low1]
  rw [h.a1, h.b1]

/-- The second of each lane. -/
theorem pay28_at (l : Fin 128) : k0_pay28 v35 v36 v40 v41 (ix2 r l) = low2 (lane K l) := by
  pointwise [k0_pay28, k0_pay25, k0_pay26, low2]
  rw [h.a1, h.b1, h.a2, h.b2]

/-- The first round: the row's least key. -/
theorem pay29_at : k0_pay29 v35 v40 (ix2 r 0) = round1 K := by
  pointwise [k0_pay29, round1, least, top_word]
  simp only [pay27_at h]

/-- What is left of the lanes' least keys after the first round. -/
theorem pay30_at (l : Fin 128) : k0_pay30 v35 v40 (ix2 r l) = rest1 big K l := by
  pointwise [k0_pay30, rest1, mask, big]
  simp only [pay27_at h, pay29_at h, select_decide]

/-- The second round. -/
theorem pay31_at : k0_pay31 v35 v36 v40 v41 (ix2 r 0) = round2 big K := by
  pointwise [k0_pay31, round2, least, top_word]
  simp only [pay28_at h, pay30_at h]

/-- The third round. -/
theorem pay32_at : k0_pay32 v35 v36 v37 v40 v41 v42 (ix2 r 0) = round3 big K := by
  pointwise [k0_pay32, k0_pay25, k0_pay26, round3, least, top_word, mask, low3]
  simp only [pay28_at h, pay30_at h, pay31_at h, select_decide, h.a1, h.b1, h.a2, h.b2, h.a3, h.b3]
  rfl

/-- The reciprocal of the sum of the three weights. -/
theorem pay33_at : k0_pay33 v35 v36 v37 v40 v41 v42 (ix2 r 0)
    = Ideal.div 1 (recip (round1 K) + recip (round2 big K) + recip (round3 big K)) := by
  pointwise [k0_pay33, recip, eps]
  rw [pay29_at h, pay31_at h, pay32_at h]

end Rounds

/-! ## The output -/

/-- The interpolated features and the two layers, at an index. -/
theorem pay34_at (v16 : FVec Ideal S2048x1024 .f32) (v72 v88 : FVec Ideal S2048x1 .f32) (v97 : Vec Ideal S1x1024x32 .f32)
    (v102 : Vec Ideal S32x64 .f32) (v105 : Vec Ideal S1x2048x16 .f32) (v107 : Vec Ideal S16x64 .f32) (v111 : Vec Ideal S1x64 .f32)
    (v117 : Vec Ideal S64x64 .f32) (v119 : Vec Ideal S1x64 .f32) (r : Fin 2048) (o : Fin 64) :
    k0_pay34 v16 v72 v88 v97 v102 v105 v107 v111 v117 v119 (ix2 r o)
      = (∑ u : Fin 64, max (((∑ c : Fin 32, v88 (ix2 r 0) * (∑ j : Fin 1024,
            (if v16 (ix2 r j) ≤ v72 (ix2 r 0) then recip (v16 (ix2 r j)) else 0) * v97 (ix3 0 j c)) * v102 (ix2 c u))
          + ∑ c : Fin 16, v105 (ix3 0 r c) * v107 (ix2 c u)) + v111 (ix2 0 u)) 0 * v117 (ix2 u o)) + v119 (ix2 0 o) := by
  pointwise [k0_pay34, recip, eps]

section Point
variable (x0 : Vec Ideal S1x2048x3 .f32) (x1 : Vec Ideal S1x1024x3 .f32) (x2 : Vec Ideal S1x2048x1 .f32) (x3 : Vec Ideal S1x1x1024 .f32)
  (x4 : Vec Ideal S1x2048x16 .f32) (x5 : Vec Ideal S1x1024x32 .f32) (x6 : Vec Ideal S32x64 .f32) (x7 : Vec Ideal S16x64 .f32)
  (x8 : Vec Ideal S1x64 .f32) (x9 : Vec Ideal S64x64 .f32) (x10 : Vec Ideal S1x64 .f32)

/-- The six arrays that the rounds start from are the sorted triples of the lanes' two halves. -/
theorem net (r : Fin 2048) : Net (k0_pay17 x0 x1 x2 x3) (k0_pay18 x0 x1 x2 x3) (k0_pay19 x0 x1 x2 x3) (k0_pay22 x0 x1 x2 x3)
    (k0_pay23 x0 x1 x2 x3) (k0_pay24 x0 x1 x2 x3) (keys x0 x1 x2 x3 r) r :=
  ⟨pay17_at x0 x1 x2 x3 r, pay18_at x0 x1 x2 x3 r, pay19_at x0 x1 x2 x3 r, pay22_at x0 x1 x2 x3 r, pay23_at x0 x1 x2 x3 r,
    pay24_at x0 x1 x2 x3 r⟩

/-- The block that a point writes, as the payloads over its whole input blocks. -/
theorem out_canon : out0_11 x0 x1 x2 x3 x4 x5 x6 x7 x8 x9 x10
    = k0_pay1 (k0_pay34 (k0_pay2 x0 x1 x2 x3)
        (k0_pay32 (k0_pay17 x0 x1 x2 x3) (k0_pay18 x0 x1 x2 x3) (k0_pay19 x0 x1 x2 x3) (k0_pay22 x0 x1 x2 x3) (k0_pay23 x0 x1 x2 x3) (k0_pay24 x0 x1 x2 x3))
        (k0_pay33 (k0_pay17 x0 x1 x2 x3) (k0_pay18 x0 x1 x2 x3) (k0_pay19 x0 x1 x2 x3) (k0_pay22 x0 x1 x2 x3) (k0_pay23 x0 x1 x2 x3) (k0_pay24 x0 x1 x2 x3))
        x5 x6 x4 x7 x8 x9 x10) := by
  have hz3 : (![0, 0, 0] : Fin 3 → ℕ) = fun _ => 0 := by
    funext a
    match a with
    | ⟨0, _⟩ => rfl
    | ⟨1, _⟩ => rfl
    | ⟨2, _⟩ => rfl
  have hz2 : (![0, 0] : Fin 2 → ℕ) = fun _ => 0 := by
    funext a
    match a with
    | ⟨0, _⟩ => rfl
    | ⟨1, _⟩ => rfl
  unfold_out out0_11
  rw [View.canon_unit_zero hz3]
  rw [View.ld_unit_zero (S := S1x2048x3) hz3, View.ld_unit_zero (S := S1x1024x3) hz3, View.ld_unit_zero (S := S1x2048x1) hz3,
    View.ld_unit_zero (S := S1x1x1024) hz3, View.ld_unit_zero (S := S1x1024x32) hz3, View.ld_unit_zero (S := S32x64) hz2,
    View.ld_unit_zero (S := S1x2048x16) hz3, View.ld_unit_zero (S := S16x64) hz2, View.ld_unit_zero (S := S64x64) hz2,
    View.ld_unit_zero (S := S1x64) hz2, View.ld_unit_zero (S := S1x64) hz2]

/-- One point's block at an index, where the row's keys are distances that are apart. -/
theorem out_at (r : Fin 2048) (o : Fin 64) (D : Fin 1024 → EReal) (hD : keys x0 x1 x2 x3 r = D) (h : Apart D) :
    out0_11 x0 x1 x2 x3 x4 x5 x6 x7 x8 x9 x10 (ix3 0 r o)
      = (∑ u : Fin 64, max (((∑ c : Fin 32, blend D (fun j => x5 (ix3 0 j c)) * x6 (ix2 c u))
          + ∑ c : Fin 16, x4 (ix3 0 r c) * x7 (ix2 c u)) + x8 (ix2 0 u)) 0 * x9 (ix2 u o)) + x10 (ix2 0 o) := by
  have hn := net x0 x1 x2 x3 r
  rw [hD] at hn
  have hk := h.nearest
  rw [out_canon]
  pointwise [k0_pay1]
  rw [pay34_at, pay32_at hn, pay33_at hn, round1_eq hk, round2_eq big hk big_lt_top h.high, round3_eq big hk big_lt_top h.high]
  simp only [pay2_at, hD, Blend.blend_eq h]

end Point

end Cert.Block

end
-- ==== Proof.Gather.lean ====
/-
  The gather of feature rows read at an index: row `idx[b, p]` of batch `b`, the index read signed and clamped into the
  1024 rows.
-/
module

public import Idealize.ShloMosaic.Lib.Pointwise

@[expose] public section

noncomputable section

namespace Cert.Gather
open Idealize.ShloMosaic

section
variable {A B P C : Nat}

/-- The dimension numbers of a gather of whole rows, batch by batch: operand [A, B, C], one start index per result row. -/
abbrev rows (wf : GatherDims.WF ⟨3, ![A, B, C]⟩ ⟨3, ![A, P, 1]⟩ ⟨3, ![A, P, C]⟩ [2] [1] [0] [1] [0] 2 ![1, 1, C]) :
    GatherDims ⟨3, ![A, B, C]⟩ ⟨3, ![A, P, 1]⟩ ⟨3, ![A, P, C]⟩ where
  offsetDims := [2]
  collapsedSliceDims := [1]
  operandBatchingDims := [0]
  startIndicesBatchingDims := [0]
  startIndexMap := [1]
  indexVectorDim := 2
  sliceSizes := ![1, 1, C]
  wf := wf

/-- The gather of rows at an index. -/
theorem rows_at {w : Nat} {α : Type} (hB : 0 < B)
    (wf : GatherDims.WF ⟨3, ![A, B, C]⟩ ⟨3, ![A, P, 1]⟩ ⟨3, ![A, P, C]⟩ [2] [1] [0] [1] [0] 2 ![1, 1, C])
    (x : (⟨3, ![A, B, C]⟩ : Shape).Idx → α) (idx : IVec ⟨3, ![A, P, 1]⟩ w) (b : Fin A) (p : Fin P) (c : Fin C) :
    Host.gather (rows wf) x idx (ix3 b p c)
      = x (ix3 b ⟨min (idx (ix3 b p 0)).toInt.toNat (B - 1), by omega⟩ c) := by
  unfold Host.gather
  refine congrArg x (funext fun a => Fin.ext ?_)
  show (rows wf).start (ix3 b p c) idx a + (rows wf).batchCoord (ix3 b p c) a + (rows wf).offCoord (ix3 b p c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · -- the batch axis: no start, no offset
    rw [GatherDims.start_batching _ _ _ _ (List.mem_singleton.mpr rfl),
      GatherDims.offCoord_eq_zero _ _ _ fun h => ((GatherDims.mem_sKept _ _).mp h).2 (List.mem_singleton.mpr rfl),
      Nat.zero_add, Nat.add_zero]
    unfold GatherDims.batchCoord
    rw [dif_pos (List.mem_singleton.mpr rfl)]
    rfl
  · -- the row axis: the clamped start alone
    rw [GatherDims.batchCoord_eq_zero _ _ _ fun h => absurd (List.mem_singleton.mp h) (by decide : (1 : Fin 3) ≠ 0),
      GatherDims.offCoord_eq_zero _ _ _ fun h => ((GatherDims.mem_sKept _ _).mp h).1 (List.mem_singleton.mpr rfl),
      Nat.add_zero]
    unfold GatherDims.start
    rw [dif_pos (show (1 : Fin 3) ∈ (rows wf).startIndexMap from List.mem_singleton.mpr rfl)]
    have hsi : (rows wf).siIdx (ix3 b p c) ⟨List.idxOf (1 : Fin 3) (rows wf).startIndexMap,
        List.idxOf_lt_length_iff.2 (List.mem_singleton.mpr rfl)⟩ = ix3 b p 0 := by
      funext e
      refine Fin.ext ?_
      match e with
      | ⟨0, _⟩ => rfl
      | ⟨1, _⟩ => rfl
      | ⟨2, _⟩ => rfl
    rw [hsi]
    rfl
  · -- the feature axis: the offset alone
    have hs : (rows wf).start (ix3 b p c) idx 2 = 0 := by
      unfold GatherDims.start
      rw [dif_neg fun h => absurd (List.mem_singleton.mp h) (by decide : (2 : Fin 3) ≠ 1)]
    rw [hs, GatherDims.batchCoord_eq_zero _ _ _ fun h => absurd (List.mem_singleton.mp h) (by decide : (2 : Fin 3) ≠ 0),
      Nat.zero_add]
    have hk : (2 : Fin 3) ∈ (rows wf).sKept := (GatherDims.mem_sKept _ _).mpr
      ⟨fun h => absurd (List.mem_singleton.mp h) (by decide : (2 : Fin 3) ≠ 1),
        fun h => absurd (List.mem_singleton.mp h) (by decide : (2 : Fin 3) ≠ 0)⟩
    unfold GatherDims.offCoord
    rw [dif_pos hk]
    rfl

end

end Cert.Gather

end
-- ==== Proof.Reference.lean ====
/-
  The reference's result, cut into named steps and read at an index.

  Each definition is a part of the term the reference's run ends with; `result_eq` says they compose to it. Then, step by
  step at an index: the distances, the three nearest positions (always positions of the row, so the guard around the gather
  never fires), the gathered feature rows, their weights, the interpolated features and the two layers.
-/
module

public import Idealize.ShloMosaic.Lib.IdealHost
public import Idealize.ShloMosaic.Lib.ReduceAll
public import proofs.«01_k».proof.Proof.Gen.ReferenceIdeal.Run
public import proofs.«01_k».proof.Proof.Distance
public import proofs.«01_k».proof.Proof.Gather

@[expose] public section

set_option maxRecDepth 16384

noncomputable section

namespace Cert.Reference
open Idealize.ShloMosaic Idealize.ShloMosaic.TcCoe
open Cert.ReferenceIdeal Cert.ReferenceIdeal.Gen
open Cert.TopK Cert.Distance

/-! ## The steps -/

/-- The squared distances, clamped at zero. -/
def distances (a0 : FVec Ideal S4x8192x3 .f32) (a1 : FVec Ideal S4x1024x3 .f32) : FVec Ideal S4x8192x1024 .f32 :=
  maximumf (subf (addf (broadcastInDim S4x8192x1024 ![0, 1, 2] bcast_S4x8192x1_S4x8192x1024_0_1_2 (broadcastInDim S4x8192x1 ![0, 1] bcast_S4x8192_S4x8192x1_0_1 (Host.reduceAdd (mulf a0 a0) (constant S_ .f32 0x00000000#32) reducesTo_S4x8192x3_S4x8192_d2 h_S_))) (broadcastInDim S4x8192x1024 ![0, 1, 2] bcast_S4x1x1024_S4x8192x1024_0_1_2 (broadcastInDim S4x1x1024 ![0, 2] bcast_S4x1024_S4x1x1024_0_2 (Host.reduceAdd (mulf a1 a1) (constant S_ .f32 0x00000000#32) reducesTo_S4x1024x3_S4x1024_d2 h_S_)))) (mulf (broadcastInDim S4x8192x1024 ![] bcast_S_S4x8192x1024 (constant S_ .f32 0x40000000#32)) (Host.dotGeneral dot_S4x8192x3_S4x1024x3_S4x8192x1024_2_2_1_1_0_0 none a0 a1))) (broadcastInDim S4x8192x1024 ![] bcast_S_S4x8192x1024 (constant S_ .f32 0x00000000#32))

/-- The three nearest distances, nearest first. -/
def nearestDistances (d : FVec Ideal S4x8192x1024 .f32) : FVec Ideal S4x8192x3 .f32 :=
  Host.negf (Host.topK S4x8192x3 2 (FloatOps.cmpfTotal .gt) (Host.negf d) sliceFits_S4x8192x1024_S4x8192x3).1

/-- The three nearest positions, one to a row. -/
def nearestPositions (d : FVec Ideal S4x8192x1024 .f32) : IVec S4x24576x1 32 :=
  shapeCast _ (Host.topK S4x8192x3 2 (FloatOps.cmpfTotal .gt) (Host.negf d) sliceFits_S4x8192x1024_S4x8192x3).2 shapeCasts_S4x8192x3_S4x24576x1

/-- The same, a negative one counted from the end. -/
def wrapped (i : IVec S4x24576x1 32) : IVec S4x24576x1 32 :=
  select (cmpi .slt i (broadcastInDim S4x24576x1 ![] bcast_S_S4x24576x1 (constantI S_ 32 0#32))) (addi i (broadcastInDim S4x24576x1 ![] bcast_S_S4x24576x1 (constantI S_ 32 1024#32))) i

/-- Which positions lie in the row. -/
def inRange (i : IVec S4x24576x1 32) : IVec S4x24576 1 :=
  Host.reduce IntOp.andi (andi (cmpi .sge i (broadcastInDim S4x24576x1 ![] bcast_S_S4x24576x1 (constantI S_ 32 0#32))) (cmpi .sle i (broadcastInDim S4x24576x1 ![0, 1, 2] bcast_S1x1x1_S4x24576x1_0_1_2 (broadcastInDim S1x1x1 ![2] bcast_S1_S1x1x1_2 (constantI S1 32 1023#32))))) (constantI S_ 1 1#1) reducesTo_S4x24576x1_S4x24576_d2 h_S_

/-- The feature rows at the positions. -/
def taken (i : IVec S4x24576x1 32) (a3 : FVec Ideal S4x1024x32 .f32) : FVec Ideal S4x24576x32 .f32 :=
  select (broadcastInDim S4x24576x32 ![0, 1] bcast_S4x24576_S4x24576x32_0_1 (inRange i)) (Host.gather gather_S4x1024x32_S4x24576x1_S4x24576x32_2_1_0_0_1_2_1132 a3 i) (broadcastInDim S4x24576x32 ![] bcast_S_S4x24576x32 (constant S_ .f32 0x7FC00000#32))

/-- The reciprocals of the three nearest distances, each raised by 1e-8. -/
def reciprocals (d : FVec Ideal S4x8192x3 .f32) : FVec Ideal S4x8192x3 .f32 :=
  Host.divf (broadcastInDim S4x8192x3 ![] bcast_S_S4x8192x3 (constant S_ .f32 0x3F800000#32)) (addf d (broadcastInDim S4x8192x3 ![] bcast_S_S4x8192x3 (constant S_ .f32 0x322BCC77#32)))

/-- The reciprocals divided by their sum. -/
def weights (r : FVec Ideal S4x8192x3 .f32) : FVec Ideal S4x8192x3 .f32 :=
  Host.divf r (broadcastInDim S4x8192x3 ![0, 1, 2] bcast_S4x8192x1_S4x8192x3_0_1_2 (broadcastInDim S4x8192x1 ![0, 1] bcast_S4x8192_S4x8192x1_0_1 (Host.reduceAdd r (constant S_ .f32 0x00000000#32) reducesTo_S4x8192x3_S4x8192_d2 h_S_)))

/-- The interpolated features. -/
def interpolated (t : FVec Ideal S4x24576x32 .f32) (w : FVec Ideal S4x8192x3 .f32) : FVec Ideal S4x8192x32 .f32 :=
  Host.reduceAdd (mulf (shapeCast _ t shapeCasts_S4x24576x32_S4x8192x3x32) (broadcastInDim S4x8192x3x32 ![0, 1, 2, 3] bcast_S4x8192x3x1_S4x8192x3x32_0_1_2_3 (broadcastInDim S4x8192x3x1 ![0, 1, 2] bcast_S4x8192x3_S4x8192x3x1_0_1_2 w))) (constant S_ .f32 0x00000000#32) reducesTo_S4x8192x3x32_S4x8192x32_d2 h_S_

/-- The two layers over the interpolated features and the target's own. -/
def layers (p : FVec Ideal S4x8192x32 .f32) (a2 : FVec Ideal S4x8192x16 .f32) (a4 : FVec Ideal S48x64 .f32) (a5 : FVec Ideal S64 .f32)
    (a6 : FVec Ideal S64x64 .f32) (a7 : FVec Ideal S64 .f32) : FVec Ideal S4x8192x64 .f32 :=
  addf (Host.dotGeneral dot_S4x8192x64_S64x64_S4x8192x64_2_0_01_1_n_n none (maximumf (addf (Host.dotGeneral dot_S4x8192x48_S48x64_S4x8192x64_2_0_01_1_n_n none (concatenate S4x8192x48 2 [⟨S4x8192x32, p⟩, ⟨S4x8192x16, a2⟩] concatenates_S4x8192x32_S4x8192x16_S4x8192x48_d2) a4) (broadcastInDim S4x8192x64 ![0, 1, 2] bcast_S1x1x64_S4x8192x64_0_1_2 (broadcastInDim S1x1x64 ![2] bcast_S64_S1x1x64_2 a5))) (broadcastInDim S4x8192x64 ![] bcast_S_S4x8192x64 (constant S_ .f32 0x00000000#32))) a6) (broadcastInDim S4x8192x64 ![0, 1, 2] bcast_S1x1x64_S4x8192x64_0_1_2 (broadcastInDim S1x1x64 ![2] bcast_S64_S1x1x64_2 a7))

/-- The reference's result as a function of its arguments. -/
def result (a0 : FVec Ideal S4x8192x3 .f32) (a1 : FVec Ideal S4x1024x3 .f32) (a2 : FVec Ideal S4x8192x16 .f32)
    (a3 : FVec Ideal S4x1024x32 .f32) (a4 : FVec Ideal S48x64 .f32) (a5 : FVec Ideal S64 .f32) (a6 : FVec Ideal S64x64 .f32)
    (a7 : FVec Ideal S64 .f32) : FVec Ideal S4x8192x64 .f32 :=
  layers (interpolated (taken (wrapped (nearestPositions (distances a0 a1))) a3)
    (weights (reciprocals (nearestDistances (distances a0 a1))))) a2 a4 a5 a6 a7

/-- The term that the reference's run ends with is the composition of the steps. -/
theorem result_eq (m : (ℓ : Loc nD τ sig) → Buf (Elt Ideal) ℓ) (c : Dev nD) :
    Value.res_main_v41 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v41
  rfl

/-! ## At an index -/

/-- The distances at an index. -/
theorem distances_at (a0 : FVec Ideal S4x8192x3 .f32) (a1 : FVec Ideal S4x1024x3 .f32) (b : Fin 4) (n : Fin 8192) (j : Fin 1024) :
    distances a0 a1 (ix3 b n j) = max (sqDist a0 a1 b n j) 0 := by
  pointwise [distances, sqDist]

/-- A position of a row, as a word, is not negative and at most 1023. -/
theorem word_facts (q : Fin 1024) : IntOp.cmpi .slt (BitVec.ofNat 32 q.val) 0#32 = 0#1
    ∧ IntOp.cmpi .sge (BitVec.ofNat 32 q.val) 0#32 = 1#1 ∧ IntOp.cmpi .sle (BitVec.ofNat 32 q.val) 1023#32 = 1#1
    ∧ (BitVec.ofNat 32 q.val).toInt.toNat = q.val := by
  have hq := q.isLt
  have h : (BitVec.ofNat 32 q.val).toInt = (q.val : ℤ) := by
    rw [BitVec.toInt_eq_toNat_of_lt] <;> rw [BitVec.toNat_ofNat] <;> omega
  refine ⟨?_, ?_, ?_, ?_⟩
  · show BitVec.ofBool ((BitVec.ofNat 32 q.val).slt 0#32) = 0#1
    rw [show (BitVec.ofNat 32 q.val).slt 0#32 = false by
      rw [BitVec.slt, h, decide_eq_false_iff_not]
      exact not_lt.mpr (Int.natCast_nonneg _)]
    rfl
  · show BitVec.ofBool ((0#32).sle (BitVec.ofNat 32 q.val)) = 1#1
    rw [show (0#32).sle (BitVec.ofNat 32 q.val) = true by
      rw [BitVec.sle, h, decide_eq_true_eq]
      exact Int.natCast_nonneg _]
    rfl
  · show BitVec.ofBool ((BitVec.ofNat 32 q.val).sle 1023#32) = 1#1
    rw [show (BitVec.ofNat 32 q.val).sle 1023#32 = true by
      rw [BitVec.sle, h, decide_eq_true_eq, show (1023#32).toInt = 1023 from rfl]
      omega]
    rfl
  · rw [h]; rfl

/-- The negation at an index. -/
theorem negf_at (d : FVec Ideal S4x8192x1024 .f32) (i : S4x8192x1024.Idx) : Host.negf d i = -d i := rfl

/-- `top_k` of the negated distances, at an index: the values are the negated distances at the three nearest positions. -/
theorem topK_neg_value (d : FVec Ideal S4x8192x1024 .f32) (b : Fin 4) (n : Fin 8192) (k : Fin 3) :
    (Host.topK S4x8192x3 2 (FloatOps.cmpfTotal .gt) (Host.negf d) sliceFits_S4x8192x1024_S4x8192x3).1 (ix3 b n k)
      = -d (ix3 b n (near3 (fun j => d (ix3 b n j)) k)) := by
  rw [topK_value (A := 4) (B := 8192) (N := 1024) (k := 3) (Host.negf d) _ (by decide) b n k]
  simp only [negf_at]
  unfold near3 near
  rfl

/-- … and the positions are those positions. -/
theorem topK_neg_position (d : FVec Ideal S4x8192x1024 .f32) (b : Fin 4) (n : Fin 8192) (k : Fin 3) :
    (Host.topK S4x8192x3 2 (FloatOps.cmpfTotal .gt) (Host.negf d) sliceFits_S4x8192x1024_S4x8192x3).2 (ix3 b n k)
      = BitVec.ofNat 32 (near3 (fun j => d (ix3 b n j)) k).val := by
  rw [topK_position (A := 4) (B := 8192) (N := 1024) (k := 3) (Host.negf d) _ (by decide) b n k]
  simp only [negf_at]
  unfold near3 near
  rfl

/-- The nearest distances at an index. -/
theorem nearestDistances_at (d : FVec Ideal S4x8192x1024 .f32) (b : Fin 4) (n : Fin 8192) (k : Fin 3) :
    nearestDistances d (ix3 b n k) = d (ix3 b n (near3 (fun j => d (ix3 b n j)) k)) := by
  unfold nearestDistances
  show -(Host.topK S4x8192x3 2 (FloatOps.cmpfTotal .gt) (Host.negf d) sliceFits_S4x8192x1024_S4x8192x3).1 (ix3 b n k) = _
  rw [topK_neg_value, neg_neg]

/-- The nearest positions at an index. -/
theorem nearestPositions_at (d : FVec Ideal S4x8192x1024 .f32) (b : Fin 4) (p : Fin 24576) :
    nearestPositions d (ix3 b p 0) = BitVec.ofNat 32 (near3 (fun j => d (ix3 b ⟨p.val / 3, by omega⟩ j)) ⟨p.val % 3, by omega⟩).val := by
  pointwise [nearestPositions]
  rw [topK_neg_position]

/-- A position that lies in the row passes the wrap-around unchanged. -/
theorem wrapped_at (i : IVec S4x24576x1 32) (b : Fin 4) (p : Fin 24576) (q : Fin 1024) (h : i (ix3 b p 0) = BitVec.ofNat 32 q.val) :
    wrapped i (ix3 b p 0) = BitVec.ofNat 32 q.val := by
  pointwise [wrapped]
  rw [h, (word_facts q).1]
  exact ValueIdx.select_zero _ _

/-- Positions that are positions of a row are all in range. -/
theorem inRange_at (i : IVec S4x24576x1 32) (h : ∀ b p, ∃ q : Fin 1024, i (ix3 b p 0) = BitVec.ofNat 32 q.val) (b : Fin 4) (p : Fin 24576) :
    inRange i (ix2 b p) = 1#1 := by
  unfold inRange
  refine Host.reduce_andi_one _ _ _ _ _ rfl fun x => ?_
  obtain ⟨q, hq⟩ := h (x 0) (x 1)
  have hx : x = ix3 (n0 := 4) (n1 := 24576) (n2 := 1) (x 0) (x 1) 0 := (eq_ix3 x).trans (congrArg _ (Subsingleton.elim (α := Fin 1) _ _))
  rw [hx]
  pointwise
  rw [hq, (word_facts q).2.1, (word_facts q).2.2.1]
  rfl

/-- The gathered feature rows at an index. -/
theorem taken_at (i : IVec S4x24576x1 32) (a3 : FVec Ideal S4x1024x32 .f32)
    (h : ∀ b p, ∃ q : Fin 1024, i (ix3 b p 0) = BitVec.ofNat 32 q.val) (b : Fin 4) (p : Fin 24576) (c : Fin 32) (q : Fin 1024)
    (hq : i (ix3 b p 0) = BitVec.ofNat 32 q.val) : taken i a3 (ix3 b p c) = a3 (ix3 b q c) := by
  pointwise [taken]
  rw [inRange_at i h b p]
  refine (ValueIdx.select_one _ _).trans ((Gather.rows_at (A := 4) (B := 1024) (P := 24576) (C := 32) (by decide) _ a3 i b p c).trans ?_)
  refine congrArg (fun r => a3 (ix3 b r c)) (Fin.ext ?_)
  show min (i (ix3 b p 0)).toInt.toNat (1024 - 1) = q.val
  rw [hq, (word_facts q).2.2.2]
  omega

/-- The interpolated features at an index. -/
theorem interpolated_at (t : FVec Ideal S4x24576x32 .f32) (w : FVec Ideal S4x8192x3 .f32) (b : Fin 4) (n : Fin 8192) (c : Fin 32) :
    interpolated t w (ix3 b n c) = ∑ k : Fin 3, t (ix3 b ⟨n.val * 3 + k.val, by omega⟩ c) * w (ix3 b n k) := by
  pointwise [interpolated]

/-- The weights at an index. -/
theorem weights_at (r : FVec Ideal S4x8192x3 .f32) (b : Fin 4) (n : Fin 8192) (k : Fin 3) :
    weights r (ix3 b n k) = Ideal.div (r (ix3 b n k)) (∑ k : Fin 3, r (ix3 b n k)) := by
  pointwise [weights]

/-- The reciprocals at an index. -/
theorem reciprocals_at (d : FVec Ideal S4x8192x3 .f32) (b : Fin 4) (n : Fin 8192) (k : Fin 3) :
    reciprocals d (ix3 b n k) = Ideal.div 1 (d (ix3 b n k) + Ideal.ofBits .f32 0x322BCC77#32) := by
  pointwise [reciprocals]

/-- The two layers at an index. -/
theorem layers_at (p : FVec Ideal S4x8192x32 .f32) (a2 : FVec Ideal S4x8192x16 .f32) (a4 : FVec Ideal S48x64 .f32) (a5 : FVec Ideal S64 .f32)
    (a6 : FVec Ideal S64x64 .f32) (a7 : FVec Ideal S64 .f32) (b : Fin 4) (n : Fin 8192) (o : Fin 64) :
    layers p a2 a4 a5 a6 a7 (ix3 b n o)
      = (∑ h : Fin 64, max (((∑ c : Fin 32, p (ix3 b n c) * a4 (ix2 ⟨c.val, by omega⟩ h))
          + ∑ c : Fin 16, a2 (ix3 b n c) * a4 (ix2 ⟨32 + c.val, by omega⟩ h)) + a5 (ix1 h)) 0 * a6 (ix2 h o)) + a7 (ix1 o) := by
  pointwise [layers]

/-! ## The result at an index -/

/-- The interpolated features, where the row's nearest distances are apart. -/
theorem features_at (a0 : FVec Ideal S4x8192x3 .f32) (a1 : FVec Ideal S4x1024x3 .f32) (a3 : FVec Ideal S4x1024x32 .f32)
    (b : Fin 4) (n : Fin 8192) (h : Apart (sqDist a0 a1 b n)) (c : Fin 32) :
    interpolated (taken (wrapped (nearestPositions (distances a0 a1))) a3)
      (weights (reciprocals (nearestDistances (distances a0 a1)))) (ix3 b n c)
      = blend (sqDist a0 a1 b n) fun j => a3 (ix3 b j c) := by
  have hrow : (fun j => distances a0 a1 (ix3 b n j)) = sqDist a0 a1 b n := by
    funext j
    rw [distances_at]
    exact max_eq_left (h.pos j).le
  have hd : ∀ k, nearestDistances (distances a0 a1) (ix3 b n k) = sqDist a0 a1 b n (near3 (sqDist a0 a1 b n) k) := by
    intro k
    rw [nearestDistances_at, hrow]
    exact congrFun hrow _
  have hi : ∀ b p, ∃ q : Fin 1024, wrapped (nearestPositions (distances a0 a1)) (ix3 b p 0) = BitVec.ofNat 32 q.val :=
    fun b p => ⟨_, wrapped_at _ b p _ (nearestPositions_at _ b p)⟩
  rw [interpolated_at]
  unfold blend
  refine Finset.sum_congr rfl fun k _ => ?_
  rw [weights_at]
  simp only [reciprocals_at, hd]
  rw [taken_at _ a3 hi b _ c (near3 (sqDist a0 a1 b n) k)]
  · rfl
  · refine wrapped_at _ b _ _ ((nearestPositions_at _ b _).trans ?_)
    have h3 : (⟨(n.val * 3 + k.val) / 3, by omega⟩ : Fin 8192) = n := Fin.ext (by show (n.val * 3 + k.val) / 3 = n.val; omega)
    have hk : (⟨(n.val * 3 + k.val) % 3, by omega⟩ : Fin 3) = k := Fin.ext (by show (n.val * 3 + k.val) % 3 = k.val; omega)
    show BitVec.ofNat 32 (near3 (fun j => distances a0 a1 (ix3 b ⟨(n.val * 3 + k.val) / 3, by omega⟩ j)) ⟨(n.val * 3 + k.val) % 3, by omega⟩).val = _
    rw [h3, hk, hrow]

/-- The reference's result at an index, where the row's nearest distances are apart. -/
theorem result_at (a0 : FVec Ideal S4x8192x3 .f32) (a1 : FVec Ideal S4x1024x3 .f32) (a2 : FVec Ideal S4x8192x16 .f32)
    (a3 : FVec Ideal S4x1024x32 .f32) (a4 : FVec Ideal S48x64 .f32) (a5 : FVec Ideal S64 .f32) (a6 : FVec Ideal S64x64 .f32)
    (a7 : FVec Ideal S64 .f32) (b : Fin 4) (n : Fin 8192) (o : Fin 64) (h : Apart (sqDist a0 a1 b n)) :
    result a0 a1 a2 a3 a4 a5 a6 a7 (ix3 b n o)
      = (∑ u : Fin 64, max (((∑ c : Fin 32, blend (sqDist a0 a1 b n) (fun j => a3 (ix3 b j c)) * a4 (ix2 ⟨c.val, by omega⟩ u))
          + ∑ c : Fin 16, a2 (ix3 b n c) * a4 (ix2 ⟨32 + c.val, by omega⟩ u)) + a5 (ix1 u)) 0 * a6 (ix2 u o)) + a7 (ix1 o) := by
  unfold result
  rw [layers_at]
  simp only [features_at a0 a1 a3 b n h]

end Cert.Reference

end
-- ==== Proof.Array.lean ====
/-
  The kernel's result array is the reference's result.

  A grid point reads its blocks out of the arguments and out of the few arrays that the host prepares (the squared norms, the
  two parts of the first layer's matrix, the two biases as rows). At a row, the point's keys are then the row's squared
  distances, and what it writes is what the reference computes there.
-/
module

public import Idealize.ShloMosaic.Lib.IdealHost
public import Idealize.ShloMosaic.Lib.Claim
public import Idealize.ShloMosaic.Lib.Pipeline.ValueKit
public import proofs.«01_k».proof.Proof.Gen.KernelIdeal.Value
public import proofs.«01_k».proof.Proof.Block
public import proofs.«01_k».proof.Proof.Reference

@[expose] public section

noncomputable section

namespace Cert.Array
open Idealize.ShloMosaic Idealize.ShloMosaic.TcCoe
open Cert.KernelIdeal Cert.KernelIdeal.Gen
open Cert.Distance

variable (m : (ℓ : Loc nD τ sig) → Buf (Elt Ideal) ℓ) (c : Dev nD)

/-! The arguments, as arrays. -/
abbrev arg0 : FVec Ideal S4x8192x3 .f32 := m ((c : Thread nD τ).loc main_arg0)
abbrev arg1 : FVec Ideal S4x1024x3 .f32 := m ((c : Thread nD τ).loc main_arg1)
abbrev arg2 : FVec Ideal S4x8192x16 .f32 := m ((c : Thread nD τ).loc main_arg2)
abbrev arg3 : FVec Ideal S4x1024x32 .f32 := m ((c : Thread nD τ).loc main_arg3)
abbrev arg4 : FVec Ideal S48x64 .f32 := m ((c : Thread nD τ).loc main_arg4)
abbrev arg5 : FVec Ideal S64 .f32 := m ((c : Thread nD τ).loc main_arg5)
abbrev arg6 : FVec Ideal S64x64 .f32 := m ((c : Thread nD τ).loc main_arg6)
abbrev arg7 : FVec Ideal S64 .f32 := m ((c : Thread nD τ).loc main_arg7)

/-- Which block each window takes at a grid point. -/
theorem idx : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, 0, 0]
    ∧ win0_4.index t = ![t.val / 4, t.val % 4, 0] ∧ win0_5.index t = ![t.val / 4, 0, 0] ∧ win0_6.index t = ![0, 0]
    ∧ win0_7.index t = ![0, 0] ∧ win0_8.index t = ![0, 0] ∧ win0_9.index t = ![0, 0] ∧ win0_10.index t = ![0, 0]
    ∧ win0_11.index t = ![t.val / 4, t.val % 4, 0] :=
  (by decide +kernel : ∀ t : Fin grid0.N, win0_0.index t = ![t.val / 4, t.val % 4, 0] ∧ win0_1.index t = ![t.val / 4, 0, 0]
    ∧ win0_2.index t = ![t.val / 4, t.val % 4, 0] ∧ win0_3.index t = ![t.val / 4, 0, 0]
    ∧ win0_4.index t = ![t.val / 4, t.val % 4, 0] ∧ win0_5.index t = ![t.val / 4, 0, 0] ∧ win0_6.index t = ![0, 0]
    ∧ win0_7.index t = ![0, 0] ∧ win0_8.index t = ![0, 0] ∧ win0_9.index t = ![0, 0] ∧ win0_10.index t = ![0, 0]
    ∧ win0_11.index t = ![t.val / 4, t.val % 4, 0])

/-- The batch of a grid point. -/
def batch (t : Fin cfg0.N) : Fin 4 := ⟨t.val / 4, by have h : t.val < 16 := Nat.lt_of_lt_of_eq t.isLt N_0; omega⟩

/-- The array's row that is row `r` of a grid point's block. -/
def row (t : Fin cfg0.N) (r : Fin 2048) : Fin 8192 := ⟨t.val % 4 * 2048 + r.val, by omega⟩

section Blocks
variable (t : Fin cfg0.N)

/-- The targets' block. -/
theorem blk0 (r : Fin 2048) (k : Fin 3) : (iblk m c 0 t : Vec Ideal S1x2048x3 .f32) (ix3 0 r k)
    = arg0 m c (ix3 (batch t) (row t r) k) := by
  blk_ext [iblk, V, idx t, batch, row]

/-- The source points' block. -/
theorem blk1 (j : Fin 1024) (k : Fin 3) : (iblk m c 1 t : Vec Ideal S1x1024x3 .f32) (ix3 0 j k)
    = arg1 m c (ix3 (batch t) j k) := by
  blk_ext [iblk, V, idx t, batch, row]

/-- The block of the targets' squared norms. -/
theorem blk2 (r : Fin 2048) : ((iblk m c 2 t : FVec Ideal S1x2048x1 .f32) (ix3 0 r 0) : EReal)
    = ∑ k : Fin 3, arg0 m c (ix3 (batch t) (row t r) k)
        * arg0 m c (ix3 (batch t) (row t r) k) := by
  blk_simp [iblk, idx t]
  entry_read
  pointwise
  refine Finset.sum_congr (M := EReal) rfl fun k _ => ?_
  congr 1 <;> blk_ext [idx t, batch, row]

/-- The block of the source points' squared norms. -/
theorem blk3 (j : Fin 1024) : ((iblk m c 3 t : FVec Ideal S1x1x1024 .f32) (ix3 0 0 j) : EReal)
    = ∑ k : Fin 3, arg1 m c (ix3 (batch t) j k)
        * arg1 m c (ix3 (batch t) j k) := by
  blk_simp [iblk, idx t]
  entry_read
  pointwise
  refine Finset.sum_congr (M := EReal) rfl fun k _ => ?_
  congr 1 <;> blk_ext [idx t, batch, row]

/-- The block of the targets' features. -/
theorem blk4 (r : Fin 2048) (k : Fin 16) : (iblk m c 4 t : Vec Ideal S1x2048x16 .f32) (ix3 0 r k)
    = arg2 m c (ix3 (batch t) (row t r) k) := by
  blk_ext [iblk, V, idx t, batch, row]

/-- The block of the source points' features. -/
theorem blk5 (j : Fin 1024) (k : Fin 32) : (iblk m c 5 t : Vec Ideal S1x1024x32 .f32) (ix3 0 j k)
    = arg3 m c (ix3 (batch t) j k) := by
  blk_ext [iblk, V, idx t, batch, row]

/-- The first layer's rows that meet the interpolated features. -/
theorem blk6 (k : Fin 32) (u : Fin 64) : (iblk m c 6 t : Vec Ideal S32x64 .f32) (ix2 k u)
    = arg4 m c (ix2 ⟨k.val, by omega⟩ u) := by
  blk_simp [iblk, idx t]
  entry_read
  pointwise
  blk_ext [idx t]

/-- The first layer's rows that meet the targets' own features. -/
theorem blk7 (k : Fin 16) (u : Fin 64) : (iblk m c 7 t : Vec Ideal S16x64 .f32) (ix2 k u)
    = arg4 m c (ix2 ⟨32 + k.val, by omega⟩ u) := by
  blk_simp [iblk, idx t]
  entry_read
  pointwise
  blk_ext [idx t]

/-- The first bias. -/
theorem blk8 (u : Fin 64) : (iblk m c 8 t : Vec Ideal S1x64 .f32) (ix2 0 u)
    = arg5 m c (ix1 u) := by
  blk_simp [iblk, idx t]
  entry_read
  pointwise
  blk_ext [idx t]

/-- The second layer's matrix. -/
theorem blk9 (k : Fin 64) (u : Fin 64) : (iblk m c 9 t : Vec Ideal S64x64 .f32) (ix2 k u)
    = arg6 m c (ix2 k u) := by
  blk_ext [iblk, V, idx t, batch, row]

/-- The second bias. -/
theorem blk10 (u : Fin 64) : (iblk m c 10 t : Vec Ideal S1x64 .f32) (ix2 0 u)
    = arg7 m c (ix1 u) := by
  blk_simp [iblk, idx t]
  entry_read
  pointwise
  blk_ext [idx t]

/-- A point's keys at a row are the row's squared distances, where these are apart. -/
theorem keys_eq (r : Fin 2048) (h : Apart (sqDist (arg0 m c) (arg1 m c) (batch t) (row t r))) :
    Block.keys (iblk m c 0 t) (iblk m c 1 t) (iblk m c 2 t) (iblk m c 3 t) r = sqDist (arg0 m c) (arg1 m c) (batch t) (row t r) := by
  funext j
  refine Eq.trans ?_ (max_eq_left (h.floor_le j))
  unfold Block.keys sqDist
  rw [blk2, blk3]
  simp only [blk0, blk1]

/-- What a point writes back, at an index of its block. -/
theorem block_at (r : Fin 2048) (o : Fin 64) (h : Apart (sqDist (arg0 m c) (arg1 m c) (batch t) (row t r))) :
    out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 0 r o)
      = Reference.result (arg0 m c) (arg1 m c) (arg2 m c) (arg3 m c) (arg4 m c) (arg5 m c) (arg6 m c) (arg7 m c)
          (ix3 (batch t) (row t r) o) := by
  rw [Block.out_at _ _ _ _ _ _ _ _ _ _ _ r o _ (keys_eq m c t r h) h, Reference.result_at _ _ _ _ _ _ _ _ _ _ _ h]
  simp only [blk4, blk5, blk6, blk7, blk8, blk9, blk10]

end Blocks

/-- The result array after the run is the reference's result of the arguments. -/
theorem array_eq (h : ∀ b n, Apart (sqDist (arg0 m c) (arg1 m c) b n)) : (dats m 0 c).arrAt 11 cfg0.N
    = Reference.result (arg0 m c) (arg1 m c) (arg2 m c) (arg3 m c) (arg4 m c) (arg5 m c) (arg6 m c) (arg7 m c) := by
  refine (dats m 0 c).arrAt_eq_of_covers 11 _ (by decide +kernel) fun t hf y => ?_
  blk_simp
  rw [after0_11]
  obtain ⟨r, o, rfl⟩ : ∃ (r : Fin 2048) (o : Fin 64), y = (ix3 0 r o : S1x2048x64.Idx) := ⟨y 1, y 2, by blk_ext⟩
  rw [show (win0_11.blk t).view.emb (ix3 0 r o : S1x2048x64.Idx) = (ix3 (batch t) (row t r) o : S4x8192x64.Idx) by
    blk_ext [idx t, batch, row]]
  exact block_at m c t r o (h _ _)

end Cert.Array
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_apart
public import proofs.«01_k».proof.Proof.Array
public import Idealize.ShloMosaic.Adequacy
public import Idealize.ShloMosaic.Init

@[expose] public section

noncomputable section

namespace Cert.Proof

open Idealize.ShloMosaic Idealize.SL.Sem Cert.Kernel

/-- The reference terminates, leaves its arguments unchanged and has no semaphore to move. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Kernel and reference, run from equal arguments whose nearest distances are apart, end with equal results. -/
theorem same_result : Cert.algebraic_KernelIdeal_ReferenceIdeal_pre_apart (hKernelIdeal := Cert.KernelIdeal.Gen.facts)
    (hReferenceIdeal := Cert.ReferenceIdeal.Gen.facts) (hPre_apart := Cert.Pre_apart.Gen.facts) := by
  intro m g m' g' hpre hargs
  refine ⟨fun c => Cert.Reference.result (Cert.Array.arg0 m c) (Cert.Array.arg1 m c) (Cert.Array.arg2 m c) (Cert.Array.arg3 m c)
    (Cert.Array.arg4 m c) (Cert.Array.arg5 m c) (Cert.Array.arg6 m c) (Cert.Array.arg7 m c), ?_, ?_⟩
  · refine (θ_run (Cert.KernelIdeal.defs (F := Ideal)) _ _).mono (fun r h c => ⟨(h c).1.trans ?_, (h c).2⟩)
      (Cert.KernelIdeal.Value.run_blocks (F := Ideal) m g)
    exact Cert.Array.array_eq m c fun b n => Cert.Distance.apart_of_pre _ _ _ _ _ _ _ _ (hpre c) b n
  · refine (θ_run (Cert.ReferenceIdeal.defs (F := Ideal)) _ _).mono (fun r h c => ⟨(h c).1.trans ?_, (h c).2⟩)
      (Cert.ReferenceIdeal.Value.run (F := Ideal) m' g')
    obtain ⟨e0, e1, e2, e3, e4, e5, e6, e7⟩ := hargs c
    rw [Cert.Reference.result_eq, e0, e1, e2, e3, e4, e5, e6, e7]

theorem claim : Cert.Claim := ⟨Cert.Kernel.Gen.facts, Cert.KernelIdeal.Gen.facts, Cert.ReferenceIdeal.Gen.facts, Cert.Pre_apart.Gen.facts,
  fun m g _ => Cert.Kernel.Gen.frame m g, fun m g _ => Cert.KernelIdeal.Gen.frame m g, fun m g _ => Cert.KernelIdeal.Gen.frame m g,
  reference_frame, fun m g _ => reference_frame m g trivial, trivial, same_result⟩

end Cert.Proof

end
